-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![512, 16384]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 16384]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S8x512x256 : Shape := ⟨3, ![8, 512, 256]⟩
abbrev S8x64x512 : Shape := ⟨3, ![8, 64, 512]⟩
abbrev S2x64x256 : Shape := ⟨3, ![2, 64, 256]⟩
abbrev S2x7x64x256 : Shape := ⟨4, ![2, 7, 64, 256]⟩
abbrev S16 : Shape := ⟨1, ![16]⟩
abbrev S2x7 : Shape := ⟨2, ![2, 7]⟩
abbrev S1 : Shape := ⟨1, ![1]⟩
abbrev S_ : Shape := ⟨0, ![]⟩
abbrev S1x512x256 : Shape := ⟨3, ![1, 512, 256]⟩
abbrev S512x256 : Shape := ⟨2, ![512, 256]⟩
abbrev S1x1 : Shape := ⟨2, ![1, 1]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .f32⟩
  | .local _ .vmem, ⟨0, _⟩ => ⟨S512x512, .f32⟩
  | .local _ .vmem, ⟨1, _⟩ => ⟨S8x512x256, .f32⟩
  | .local _ .vmem, ⟨2, _⟩ => ⟨S8x512x256, .f32⟩
  | .local _ .vmem, ⟨3, _⟩ => ⟨S8x64x512, .bf16⟩
  | .local _ .vmem, ⟨4, _⟩ => ⟨S2x64x256, .bf16⟩
  | .local _ .vmem, ⟨5, _⟩ => ⟨S2x7x64x256, .bf16⟩
  | .local _ .vmem, ⟨6, _⟩ => ⟨S2x7x64x256, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_75 : BitVec 32 := 1#32
  let v84 : BitVec 32 := Scalar.addi v2 c1_i32_75
  let c8_i32_76 : BitVec 32 := 8#32
  let c0_i32_77 : BitVec 32 := 0#32
  let v85 : BitVec 1 := Scalar.cmpi .eq c8_i32_76 c0_i32_77
  let c1_i32_78 : BitVec 32 := 1#32
  let v86 : BitVec 32 := Scalar.select v85 c1_i32_78 c8_i32_76
  let v87 : BitVec 32 := Scalar.remsi v84 v86
  let c0_i32_80 : BitVec 32 := 0#32
  let v89 : BitVec 1 := Scalar.cmpi .slt v87 c0_i32_80
  let c0_i32_81 : BitVec 32 := 0#32
  let v90 : BitVec 1 := Scalar.cmpi .slt v86 c0_i32_81
  let v91 : BitVec 1 := Scalar.xori v89 v90
  let c0_i32_79 : BitVec 32 := 0#32
  let v88 : BitVec 1 := Scalar.cmpi .ne v87 c0_i32_79
  let v92 : BitVec 1 := Scalar.andi v91 v88
  let v93 : BitVec 32 := Scalar.addi v87 v86
  let v94 : BitVec 32 := Scalar.select v92 v93 v87
  let c1_i32_83 : BitVec 32 := 1#32
  let v95 : BitVec 32 := Scalar.muli v94 c1_i32_83
  let v96 : BitVec 32 := Scalar.addi c0_i32_84 v95
  v96.toNat
def k0_dev2 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v97 : BitVec 32 := Scalar.addi v2 c2_i32_85
  let c8_i32_86 : BitVec 32 := 8#32
  let c0_i32_87 : BitVec 32 := 0#32
  let v98 : BitVec 1 := Scalar.cmpi .eq c8_i32_86 c0_i32_87
  let c1_i32_88 : BitVec 32 := 1#32
  let v99 : BitVec 32 := Scalar.select v98 c1_i32_88 c8_i32_86
  let v100 : BitVec 32 := Scalar.remsi v97 v99
  let c0_i32_90 : BitVec 32 := 0#32
  let v102 : BitVec 1 := Scalar.cmpi .slt v100 c0_i32_90
  let c0_i32_91 : BitVec 32 := 0#32
  let v103 : BitVec 1 := Scalar.cmpi .slt v99 c0_i32_91
  let v104 : BitVec 1 := Scalar.xori v102 v103
  let c0_i32_89 : BitVec 32 := 0#32
  let v101 : BitVec 1 := Scalar.cmpi .ne v100 c0_i32_89
  let v105 : BitVec 1 := Scalar.andi v104 v101
  let v106 : BitVec 32 := Scalar.addi v100 v99
  let v107 : BitVec 32 := Scalar.select v105 v106 v100
  let c1_i32_93 : BitVec 32 := 1#32
  let v108 : BitVec 32 := Scalar.muli v107 c1_i32_93
  let v109 : BitVec 32 := Scalar.addi c0_i32_94 v108
  v109.toNat
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v110 : BitVec 32 := Scalar.addi v2 c3_i32_95
  let c8_i32_96 : BitVec 32 := 8#32
  let c0_i32_97 : BitVec 32 := 0#32
  let v111 : BitVec 1 := Scalar.cmpi .eq c8_i32_96 c0_i32_97
  let c1_i32_98 : BitVec 32 := 1#32
  let v112 : BitVec 32 := Scalar.select v111 c1_i32_98 c8_i32_96
  let v113 : BitVec 32 := Scalar.remsi v110 v112
  let c0_i32_100 : BitVec 32 := 0#32
  let v115 : BitVec 1 := Scalar.cmpi .slt v113 c0_i32_100
  let c0_i32_101 : BitVec 32 := 0#32
  let v116 : BitVec 1 := Scalar.cmpi .slt v112 c0_i32_101
  let v117 : BitVec 1 := Scalar.xori v115 v116
  let c0_i32_99 : BitVec 32 := 0#32
  let v114 : BitVec 1 := Scalar.cmpi .ne v113 c0_i32_99
  let v118 : BitVec 1 := Scalar.andi v117 v114
  let v119 : BitVec 32 := Scalar.addi v113 v112
  let v120 : BitVec 32 := Scalar.select v118 v119 v113
  let c1_i32_103 : BitVec 32 := 1#32
  let v121 : BitVec 32 := Scalar.muli v120 c1_i32_103
  let v122 : BitVec 32 := Scalar.addi c0_i32_104 v121
  v122.toNat
def k0_dev4 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_105 : BitVec 32 := 4#32
  let v123 : BitVec 32 := Scalar.addi v2 c4_i32_105
  let c8_i32_106 : BitVec 32 := 8#32
  let c0_i32_107 : BitVec 32 := 0#32
  let v124 : BitVec 1 := Scalar.cmpi .eq c8_i32_106 c0_i32_107
  let c1_i32_108 : BitVec 32 := 1#32
  let v125 : BitVec 32 := Scalar.select v124 c1_i32_108 c8_i32_106
  let v126 : BitVec 32 := Scalar.remsi v123 v125
  let c0_i32_110 : BitVec 32 := 0#32
  let v128 : BitVec 1 := Scalar.cmpi .slt v126 c0_i32_110
  let c0_i32_111 : BitVec 32 := 0#32
  let v129 : BitVec 1 := Scalar.cmpi .slt v125 c0_i32_111
  let v130 : BitVec 1 := Scalar.xori v128 v129
  let c0_i32_109 : BitVec 32 := 0#32
  let v127 : BitVec 1 := Scalar.cmpi .ne v126 c0_i32_109
  let v131 : BitVec 1 := Scalar.andi v130 v127
  let v132 : BitVec 32 := Scalar.addi v126 v125
  let v133 : BitVec 32 := Scalar.select v131 v132 v126
  let c1_i32_113 : BitVec 32 := 1#32
  let v134 : BitVec 32 := Scalar.muli v133 c1_i32_113
  let v135 : BitVec 32 := Scalar.addi c0_i32_114 v134
  v135.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_115 : BitVec 32 := 5#32
  let v136 : BitVec 32 := Scalar.addi v2 c5_i32_115
  let c8_i32_116 : BitVec 32 := 8#32
  let c0_i32_117 : BitVec 32 := 0#32
  let v137 : BitVec 1 := Scalar.cmpi .eq c8_i32_116 c0_i32_117
  let c1_i32_118 : BitVec 32 := 1#32
  let v138 : BitVec 32 := Scalar.select v137 c1_i32_118 c8_i32_116
  let v139 : BitVec 32 := Scalar.remsi v136 v138
  let c0_i32_120 : BitVec 32 := 0#32
  let v141 : BitVec 1 := Scalar.cmpi .slt v139 c0_i32_120
  let c0_i32_121 : BitVec 32 := 0#32
  let v142 : BitVec 1 := Scalar.cmpi .slt v138 c0_i32_121
  let v143 : BitVec 1 := Scalar.xori v141 v142
  let c0_i32_119 : BitVec 32 := 0#32
  let v140 : BitVec 1 := Scalar.cmpi .ne v139 c0_i32_119
  let v144 : BitVec 1 := Scalar.andi v143 v140
  let v145 : BitVec 32 := Scalar.addi v139 v138
  let v146 : BitVec 32 := Scalar.select v144 v145 v139
  let c1_i32_123 : BitVec 32 := 1#32
  let v147 : BitVec 32 := Scalar.muli v146 c1_i32_123
  let v148 : BitVec 32 := Scalar.addi c0_i32_124 v147
  v148.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_125 : BitVec 32 := 6#32
  let v149 : BitVec 32 := Scalar.addi v2 c6_i32_125
  let c8_i32_126 : BitVec 32 := 8#32
  let c0_i32_127 : BitVec 32 := 0#32
  let v150 : BitVec 1 := Scalar.cmpi .eq c8_i32_126 c0_i32_127
  let c1_i32_128 : BitVec 32 := 1#32
  let v151 : BitVec 32 := Scalar.select v150 c1_i32_128 c8_i32_126
  let v152 : BitVec 32 := Scalar.remsi v149 v151
  let c0_i32_130 : BitVec 32 := 0#32
  let v154 : BitVec 1 := Scalar.cmpi .slt v152 c0_i32_130
  let c0_i32_131 : BitVec 32 := 0#32
  let v155 : BitVec 1 := Scalar.cmpi .slt v151 c0_i32_131
  let v156 : BitVec 1 := Scalar.xori v154 v155
  let c0_i32_129 : BitVec 32 := 0#32
  let v153 : BitVec 1 := Scalar.cmpi .ne v152 c0_i32_129
  let v157 : BitVec 1 := Scalar.andi v156 v153
  let v158 : BitVec 32 := Scalar.addi v152 v151
  let v159 : BitVec 32 := Scalar.select v157 v158 v152
  let c1_i32_133 : BitVec 32 := 1#32
  let v160 : BitVec 32 := Scalar.muli v159 c1_i32_133
  let v161 : BitVec 32 := Scalar.addi c0_i32_134 v160
  v161.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_135 : BitVec 32 := 7#32
  let v162 : BitVec 32 := Scalar.addi v2 c7_i32_135
  let c8_i32_136 : BitVec 32 := 8#32
  let c0_i32_137 : BitVec 32 := 0#32
  let v163 : BitVec 1 := Scalar.cmpi .eq c8_i32_136 c0_i32_137
  let c1_i32_138 : BitVec 32 := 1#32
  let v164 : BitVec 32 := Scalar.select v163 c1_i32_138 c8_i32_136
  let v165 : BitVec 32 := Scalar.remsi v162 v164
  let c0_i32_140 : BitVec 32 := 0#32
  let v167 : BitVec 1 := Scalar.cmpi .slt v165 c0_i32_140
  let c0_i32_141 : BitVec 32 := 0#32
  let v168 : BitVec 1 := Scalar.cmpi .slt v164 c0_i32_141
  let v169 : BitVec 1 := Scalar.xori v167 v168
  let c0_i32_139 : BitVec 32 := 0#32
  let v166 : BitVec 1 := Scalar.cmpi .ne v165 c0_i32_139
  let v170 : BitVec 1 := Scalar.andi v169 v166
  let v171 : BitVec 32 := Scalar.addi v165 v164
  let v172 : BitVec 32 := Scalar.select v170 v171 v165
  let c1_i32_143 : BitVec 32 := 1#32
  let v173 : BitVec 32 := Scalar.muli v172 c1_i32_143
  let v174 : BitVec 32 := Scalar.addi c0_i32_144 v173
  v174.toNat
def k0_off1 (d0 : Dev nD) (c1_i32_292 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v307 : BitVec 32 := Scalar.addi v2 c1_i32_292
  let c8_i32_293 : BitVec 32 := 8#32
  let c0_i32_294 : BitVec 32 := 0#32
  let v308 : BitVec 1 := Scalar.cmpi .eq c8_i32_293 c0_i32_294
  let c1_i32_295 : BitVec 32 := 1#32
  let v309 : BitVec 32 := Scalar.select v308 c1_i32_295 c8_i32_293
  let v310 : BitVec 32 := Scalar.remsi v307 v309
  let c0_i32_297 : BitVec 32 := 0#32
  let v312 : BitVec 1 := Scalar.cmpi .slt v310 c0_i32_297
  let c0_i32_298 : BitVec 32 := 0#32
  let v313 : BitVec 1 := Scalar.cmpi .slt v309 c0_i32_298
  let v314 : BitVec 1 := Scalar.xori v312 v313
  let c0_i32_296 : BitVec 32 := 0#32
  let v311 : BitVec 1 := Scalar.cmpi .ne v310 c0_i32_296
  let v315 : BitVec 1 := Scalar.andi v314 v311
  let v316 : BitVec 32 := Scalar.addi v310 v309
  let v317 : BitVec 32 := Scalar.select v315 v316 v310
  let c0_i32_309 : BitVec 32 := 0#32
  let c0_i32_310 : BitVec 32 := 0#32
  ![v317.toNat, 0, 0]
def k0_dev8 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_292 : BitVec 32 := 1#32
  let v307 : BitVec 32 := Scalar.addi v2 c1_i32_292
  let c8_i32_293 : BitVec 32 := 8#32
  let c0_i32_294 : BitVec 32 := 0#32
  let v308 : BitVec 1 := Scalar.cmpi .eq c8_i32_293 c0_i32_294
  let c1_i32_295 : BitVec 32 := 1#32
  let v309 : BitVec 32 := Scalar.select v308 c1_i32_295 c8_i32_293
  let v310 : BitVec 32 := Scalar.remsi v307 v309
  let c0_i32_297 : BitVec 32 := 0#32
  let v312 : BitVec 1 := Scalar.cmpi .slt v310 c0_i32_297
  let c0_i32_298 : BitVec 32 := 0#32
  let v313 : BitVec 1 := Scalar.cmpi .slt v309 c0_i32_298
  let v314 : BitVec 1 := Scalar.xori v312 v313
  let c0_i32_296 : BitVec 32 := 0#32
  let v311 : BitVec 1 := Scalar.cmpi .ne v310 c0_i32_296
  let v315 : BitVec 1 := Scalar.andi v314 v311
  let v316 : BitVec 32 := Scalar.addi v310 v309
  let v317 : BitVec 32 := Scalar.select v315 v316 v310
  let c1_i32_305 : BitVec 32 := 1#32
  let v318 : BitVec 32 := Scalar.muli v317 c1_i32_305
  let v319 : BitVec 32 := Scalar.addi c0_i32_306 v318
  v319.toNat
def k0_dev9 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_311 : BitVec 32 := 2#32
  let v328 : BitVec 32 := Scalar.addi v2 c2_i32_311
  let c8_i32_312 : BitVec 32 := 8#32
  let c0_i32_313 : BitVec 32 := 0#32
  let v329 : BitVec 1 := Scalar.cmpi .eq c8_i32_312 c0_i32_313
  let c1_i32_314 : BitVec 32 := 1#32
  let v330 : BitVec 32 := Scalar.select v329 c1_i32_314 c8_i32_312
  let v331 : BitVec 32 := Scalar.remsi v328 v330
  let c0_i32_316 : BitVec 32 := 0#32
  let v333 : BitVec 1 := Scalar.cmpi .slt v331 c0_i32_316
  let c0_i32_317 : BitVec 32 := 0#32
  let v334 : BitVec 1 := Scalar.cmpi .slt v330 c0_i32_317
  let v335 : BitVec 1 := Scalar.xori v333 v334
  let c0_i32_315 : BitVec 32 := 0#32
  let v332 : BitVec 1 := Scalar.cmpi .ne v331 c0_i32_315
  let v336 : BitVec 1 := Scalar.andi v335 v332
  let v337 : BitVec 32 := Scalar.addi v331 v330
  let v338 : BitVec 32 := Scalar.select v336 v337 v331
  let c1_i32_324 : BitVec 32 := 1#32
  let v339 : BitVec 32 := Scalar.muli v338 c1_i32_324
  let v340 : BitVec 32 := Scalar.addi c0_i32_325 v339
  v340.toNat
def k0_dev10 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_330 : BitVec 32 := 3#32
  let v349 : BitVec 32 := Scalar.addi v2 c3_i32_330
  let c8_i32_331 : BitVec 32 := 8#32
  let c0_i32_332 : BitVec 32 := 0#32
  let v350 : BitVec 1 := Scalar.cmpi .eq c8_i32_331 c0_i32_332
  let c1_i32_333 : BitVec 32 := 1#32
  let v351 : BitVec 32 := Scalar.select v350 c1_i32_333 c8_i32_331
  let v352 : BitVec 32 := Scalar.remsi v349 v351
  let c0_i32_335 : BitVec 32 := 0#32
  let v354 : BitVec 1 := Scalar.cmpi .slt v352 c0_i32_335
  let c0_i32_336 : BitVec 32 := 0#32
  let v355 : BitVec 1 := Scalar.cmpi .slt v351 c0_i32_336
  let v356 : BitVec 1 := Scalar.xori v354 v355
  let c0_i32_334 : BitVec 32 := 0#32
  let v353 : BitVec 1 := Scalar.cmpi .ne v352 c0_i32_334
  let v357 : BitVec 1 := Scalar.andi v356 v353
  let v358 : BitVec 32 := Scalar.addi v352 v351
  let v359 : BitVec 32 := Scalar.select v357 v358 v352
  let c1_i32_343 : BitVec 32 := 1#32
  let v360 : BitVec 32 := Scalar.muli v359 c1_i32_343
  let v361 : BitVec 32 := Scalar.addi c0_i32_344 v360
  v361.toNat
def k0_dev11 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_349 : BitVec 32 := 4#32
  let v370 : BitVec 32 := Scalar.addi v2 c4_i32_349
  let c8_i32_350 : BitVec 32 := 8#32
  let c0_i32_351 : BitVec 32 := 0#32
  let v371 : BitVec 1 := Scalar.cmpi .eq c8_i32_350 c0_i32_351
  let c1_i32_352 : BitVec 32 := 1#32
  let v372 : BitVec 32 := Scalar.select v371 c1_i32_352 c8_i32_350
  let v373 : BitVec 32 := Scalar.remsi v370 v372
  let c0_i32_354 : BitVec 32 := 0#32
  let v375 : BitVec 1 := Scalar.cmpi .slt v373 c0_i32_354
  let c0_i32_355 : BitVec 32 := 0#32
  let v376 : BitVec 1 := Scalar.cmpi .slt v372 c0_i32_355
  let v377 : BitVec 1 := Scalar.xori v375 v376
  let c0_i32_353 : BitVec 32 := 0#32
  let v374 : BitVec 1 := Scalar.cmpi .ne v373 c0_i32_353
  let v378 : BitVec 1 := Scalar.andi v377 v374
  let v379 : BitVec 32 := Scalar.addi v373 v372
  let v380 : BitVec 32 := Scalar.select v378 v379 v373
  let c1_i32_362 : BitVec 32 := 1#32
  let v381 : BitVec 32 := Scalar.muli v380 c1_i32_362
  let v382 : BitVec 32 := Scalar.addi c0_i32_363 v381
  v382.toNat
def k0_dev12 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_368 : BitVec 32 := 5#32
  let v391 : BitVec 32 := Scalar.addi v2 c5_i32_368
  let c8_i32_369 : BitVec 32 := 8#32
  let c0_i32_370 : BitVec 32 := 0#32
  let v392 : BitVec 1 := Scalar.cmpi .eq c8_i32_369 c0_i32_370
  let c1_i32_371 : BitVec 32 := 1#32
  let v393 : BitVec 32 := Scalar.select v392 c1_i32_371 c8_i32_369
  let v394 : BitVec 32 := Scalar.remsi v391 v393
  let c0_i32_373 : BitVec 32 := 0#32
  let v396 : BitVec 1 := Scalar.cmpi .slt v394 c0_i32_373
  let c0_i32_374 : BitVec 32 := 0#32
  let v397 : BitVec 1 := Scalar.cmpi .slt v393 c0_i32_374
  let v398 : BitVec 1 := Scalar.xori v396 v397
  let c0_i32_372 : BitVec 32 := 0#32
  let v395 : BitVec 1 := Scalar.cmpi .ne v394 c0_i32_372
  let v399 : BitVec 1 := Scalar.andi v398 v395
  let v400 : BitVec 32 := Scalar.addi v394 v393
  let v401 : BitVec 32 := Scalar.select v399 v400 v394
  let c1_i32_381 : BitVec 32 := 1#32
  let v402 : BitVec 32 := Scalar.muli v401 c1_i32_381
  let v403 : BitVec 32 := Scalar.addi c0_i32_382 v402
  v403.toNat
def k0_dev13 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_387 : BitVec 32 := 6#32
  let v412 : BitVec 32 := Scalar.addi v2 c6_i32_387
  let c8_i32_388 : BitVec 32 := 8#32
  let c0_i32_389 : BitVec 32 := 0#32
  let v413 : BitVec 1 := Scalar.cmpi .eq c8_i32_388 c0_i32_389
  let c1_i32_390 : BitVec 32 := 1#32
  let v414 : BitVec 32 := Scalar.select v413 c1_i32_390 c8_i32_388
  let v415 : BitVec 32 := Scalar.remsi v412 v414
  let c0_i32_392 : BitVec 32 := 0#32
  let v417 : BitVec 1 := Scalar.cmpi .slt v415 c0_i32_392
  let c0_i32_393 : BitVec 32 := 0#32
  let v418 : BitVec 1 := Scalar.cmpi .slt v414 c0_i32_393
  let v419 : BitVec 1 := Scalar.xori v417 v418
  let c0_i32_391 : BitVec 32 := 0#32
  let v416 : BitVec 1 := Scalar.cmpi .ne v415 c0_i32_391
  let v420 : BitVec 1 := Scalar.andi v419 v416
  let v421 : BitVec 32 := Scalar.addi v415 v414
  let v422 : BitVec 32 := Scalar.select v420 v421 v415
  let c1_i32_400 : BitVec 32 := 1#32
  let v423 : BitVec 32 := Scalar.muli v422 c1_i32_400
  let v424 : BitVec 32 := Scalar.addi c0_i32_401 v423
  v424.toNat
def k0_dev14 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_406 : BitVec 32 := 7#32
  let v433 : BitVec 32 := Scalar.addi v2 c7_i32_406
  let c8_i32_407 : BitVec 32 := 8#32
  let c0_i32_408 : BitVec 32 := 0#32
  let v434 : BitVec 1 := Scalar.cmpi .eq c8_i32_407 c0_i32_408
  let c1_i32_409 : BitVec 32 := 1#32
  let v435 : BitVec 32 := Scalar.select v434 c1_i32_409 c8_i32_407
  let v436 : BitVec 32 := Scalar.remsi v433 v435
  let c0_i32_411 : BitVec 32 := 0#32
  let v438 : BitVec 1 := Scalar.cmpi .slt v436 c0_i32_411
  let c0_i32_412 : BitVec 32 := 0#32
  let v439 : BitVec 1 := Scalar.cmpi .slt v435 c0_i32_412
  let v440 : BitVec 1 := Scalar.xori v438 v439
  let c0_i32_410 : BitVec 32 := 0#32
  let v437 : BitVec 1 := Scalar.cmpi .ne v436 c0_i32_410
  let v441 : BitVec 1 := Scalar.andi v440 v437
  let v442 : BitVec 32 := Scalar.addi v436 v435
  let v443 : BitVec 32 := Scalar.select v441 v442 v436
  let c1_i32_419 : BitVec 32 := 1#32
  let v444 : BitVec 32 := Scalar.muli v443 c1_i32_419
  let v445 : BitVec 32 := Scalar.addi c0_i32_420 v444
  v445.toNat
def k0_off2 (d0 : Dev nD) (c1_i32_425 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v454 : BitVec 32 := Scalar.addi v2 c1_i32_425
  let c8_i32_426 : BitVec 32 := 8#32
  let c0_i32_427 : BitVec 32 := 0#32
  let v455 : BitVec 1 := Scalar.cmpi .eq c8_i32_426 c0_i32_427
  let c1_i32_428 : BitVec 32 := 1#32
  let v456 : BitVec 32 := Scalar.select v455 c1_i32_428 c8_i32_426
  let v457 : BitVec 32 := Scalar.remsi v454 v456
  let c0_i32_430 : BitVec 32 := 0#32
  let v459 : BitVec 1 := Scalar.cmpi .slt v457 c0_i32_430
  let c0_i32_431 : BitVec 32 := 0#32
  let v460 : BitVec 1 := Scalar.cmpi .slt v456 c0_i32_431
  let v461 : BitVec 1 := Scalar.xori v459 v460
  let c0_i32_429 : BitVec 32 := 0#32
  let v458 : BitVec 1 := Scalar.cmpi .ne v457 c0_i32_429
  let v462 : BitVec 1 := Scalar.andi v461 v458
  let v463 : BitVec 32 := Scalar.addi v457 v456
  let v464 : BitVec 32 := Scalar.select v462 v463 v457
  let c0_i32_442 : BitVec 32 := 0#32
  let c256_i32_443 : BitVec 32 := 256#32
  ![v464.toNat, 0, 256]
def k0_dev15 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_425 : BitVec 32 := 1#32
  let v454 : BitVec 32 := Scalar.addi v2 c1_i32_425
  let c8_i32_426 : BitVec 32 := 8#32
  let c0_i32_427 : BitVec 32 := 0#32
  let v455 : BitVec 1 := Scalar.cmpi .eq c8_i32_426 c0_i32_427
  let c1_i32_428 : BitVec 32 := 1#32
  let v456 : BitVec 32 := Scalar.select v455 c1_i32_428 c8_i32_426
  let v457 : BitVec 32 := Scalar.remsi v454 v456
  let c0_i32_430 : BitVec 32 := 0#32
  let v459 : BitVec 1 := Scalar.cmpi .slt v457 c0_i32_430
  let c0_i32_431 : BitVec 32 := 0#32
  let v460 : BitVec 1 := Scalar.cmpi .slt v456 c0_i32_431
  let v461 : BitVec 1 := Scalar.xori v459 v460
  let c0_i32_429 : BitVec 32 := 0#32
  let v458 : BitVec 1 := Scalar.cmpi .ne v457 c0_i32_429
  let v462 : BitVec 1 := Scalar.andi v461 v458
  let v463 : BitVec 32 := Scalar.addi v457 v456
  let v464 : BitVec 32 := Scalar.select v462 v463 v457
  let c1_i32_438 : BitVec 32 := 1#32
  let v465 : BitVec 32 := Scalar.muli v464 c1_i32_438
  let v466 : BitVec 32 := Scalar.addi c0_i32_439 v465
  v466.toNat
def k0_dev16 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_444 : BitVec 32 := 2#32
  let v475 : BitVec 32 := Scalar.addi v2 c2_i32_444
  let c8_i32_445 : BitVec 32 := 8#32
  let c0_i32_446 : BitVec 32 := 0#32
  let v476 : BitVec 1 := Scalar.cmpi .eq c8_i32_445 c0_i32_446
  let c1_i32_447 : BitVec 32 := 1#32
  let v477 : BitVec 32 := Scalar.select v476 c1_i32_447 c8_i32_445
  let v478 : BitVec 32 := Scalar.remsi v475 v477
  let c0_i32_449 : BitVec 32 := 0#32
  let v480 : BitVec 1 := Scalar.cmpi .slt v478 c0_i32_449
  let c0_i32_450 : BitVec 32 := 0#32
  let v481 : BitVec 1 := Scalar.cmpi .slt v477 c0_i32_450
  let v482 : BitVec 1 := Scalar.xori v480 v481
  let c0_i32_448 : BitVec 32 := 0#32
  let v479 : BitVec 1 := Scalar.cmpi .ne v478 c0_i32_448
  let v483 : BitVec 1 := Scalar.andi v482 v479
  let v484 : BitVec 32 := Scalar.addi v478 v477
  let v485 : BitVec 32 := Scalar.select v483 v484 v478
  let c1_i32_457 : BitVec 32 := 1#32
  let v486 : BitVec 32 := Scalar.muli v485 c1_i32_457
  let v487 : BitVec 32 := Scalar.addi c0_i32_458 v486
  v487.toNat
def k0_dev17 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_463 : BitVec 32 := 3#32
  let v496 : BitVec 32 := Scalar.addi v2 c3_i32_463
  let c8_i32_464 : BitVec 32 := 8#32
  let c0_i32_465 : BitVec 32 := 0#32
  let v497 : BitVec 1 := Scalar.cmpi .eq c8_i32_464 c0_i32_465
  let c1_i32_466 : BitVec 32 := 1#32
  let v498 : BitVec 32 := Scalar.select v497 c1_i32_466 c8_i32_464
  let v499 : BitVec 32 := Scalar.remsi v496 v498
  let c0_i32_468 : BitVec 32 := 0#32
  let v501 : BitVec 1 := Scalar.cmpi .slt v499 c0_i32_468
  let c0_i32_469 : BitVec 32 := 0#32
  let v502 : BitVec 1 := Scalar.cmpi .slt v498 c0_i32_469
  let v503 : BitVec 1 := Scalar.xori v501 v502
  let c0_i32_467 : BitVec 32 := 0#32
  let v500 : BitVec 1 := Scalar.cmpi .ne v499 c0_i32_467
  let v504 : BitVec 1 := Scalar.andi v503 v500
  let v505 : BitVec 32 := Scalar.addi v499 v498
  let v506 : BitVec 32 := Scalar.select v504 v505 v499
  let c1_i32_476 : BitVec 32 := 1#32
  let v507 : BitVec 32 := Scalar.muli v506 c1_i32_476
  let v508 : BitVec 32 := Scalar.addi c0_i32_477 v507
  v508.toNat
def k0_dev18 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_482 : BitVec 32 := 4#32
  let v517 : BitVec 32 := Scalar.addi v2 c4_i32_482
  let c8_i32_483 : BitVec 32 := 8#32
  let c0_i32_484 : BitVec 32 := 0#32
  let v518 : BitVec 1 := Scalar.cmpi .eq c8_i32_483 c0_i32_484
  let c1_i32_485 : BitVec 32 := 1#32
  let v519 : BitVec 32 := Scalar.select v518 c1_i32_485 c8_i32_483
  let v520 : BitVec 32 := Scalar.remsi v517 v519
  let c0_i32_487 : BitVec 32 := 0#32
  let v522 : BitVec 1 := Scalar.cmpi .slt v520 c0_i32_487
  let c0_i32_488 : BitVec 32 := 0#32
  let v523 : BitVec 1 := Scalar.cmpi .slt v519 c0_i32_488
  let v524 : BitVec 1 := Scalar.xori v522 v523
  let c0_i32_486 : BitVec 32 := 0#32
  let v521 : BitVec 1 := Scalar.cmpi .ne v520 c0_i32_486
  let v525 : BitVec 1 := Scalar.andi v524 v521
  let v526 : BitVec 32 := Scalar.addi v520 v519
  let v527 : BitVec 32 := Scalar.select v525 v526 v520
  let c1_i32_495 : BitVec 32 := 1#32
  let v528 : BitVec 32 := Scalar.muli v527 c1_i32_495
  let v529 : BitVec 32 := Scalar.addi c0_i32_496 v528
  v529.toNat
def k0_dev19 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_501 : BitVec 32 := 5#32
  let v538 : BitVec 32 := Scalar.addi v2 c5_i32_501
  let c8_i32_502 : BitVec 32 := 8#32
  let c0_i32_503 : BitVec 32 := 0#32
  let v539 : BitVec 1 := Scalar.cmpi .eq c8_i32_502 c0_i32_503
  let c1_i32_504 : BitVec 32 := 1#32
  let v540 : BitVec 32 := Scalar.select v539 c1_i32_504 c8_i32_502
  let v541 : BitVec 32 := Scalar.remsi v538 v540
  let c0_i32_506 : BitVec 32 := 0#32
  let v543 : BitVec 1 := Scalar.cmpi .slt v541 c0_i32_506
  let c0_i32_507 : BitVec 32 := 0#32
  let v544 : BitVec 1 := Scalar.cmpi .slt v540 c0_i32_507
  let v545 : BitVec 1 := Scalar.xori v543 v544
  let c0_i32_505 : BitVec 32 := 0#32
  let v542 : BitVec 1 := Scalar.cmpi .ne v541 c0_i32_505
  let v546 : BitVec 1 := Scalar.andi v545 v542
  let v547 : BitVec 32 := Scalar.addi v541 v540
  let v548 : BitVec 32 := Scalar.select v546 v547 v541
  let c1_i32_514 : BitVec 32 := 1#32
  let v549 : BitVec 32 := Scalar.muli v548 c1_i32_514
  let v550 : BitVec 32 := Scalar.addi c0_i32_515 v549
  v550.toNat
def k0_dev20 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_520 : BitVec 32 := 6#32
  let v559 : BitVec 32 := Scalar.addi v2 c6_i32_520
  let c8_i32_521 : BitVec 32 := 8#32
  let c0_i32_522 : BitVec 32 := 0#32
  let v560 : BitVec 1 := Scalar.cmpi .eq c8_i32_521 c0_i32_522
  let c1_i32_523 : BitVec 32 := 1#32
  let v561 : BitVec 32 := Scalar.select v560 c1_i32_523 c8_i32_521
  let v562 : BitVec 32 := Scalar.remsi v559 v561
  let c0_i32_525 : BitVec 32 := 0#32
  let v564 : BitVec 1 := Scalar.cmpi .slt v562 c0_i32_525
  let c0_i32_526 : BitVec 32 := 0#32
  let v565 : BitVec 1 := Scalar.cmpi .slt v561 c0_i32_526
  let v566 : BitVec 1 := Scalar.xori v564 v565
  let c0_i32_524 : BitVec 32 := 0#32
  let v563 : BitVec 1 := Scalar.cmpi .ne v562 c0_i32_524
  let v567 : BitVec 1 := Scalar.andi v566 v563
  let v568 : BitVec 32 := Scalar.addi v562 v561
  let v569 : BitVec 32 := Scalar.select v567 v568 v562
  let c1_i32_533 : BitVec 32 := 1#32
  let v570 : BitVec 32 := Scalar.muli v569 c1_i32_533
  let v571 : BitVec 32 := Scalar.addi c0_i32_534 v570
  v571.toNat
def k0_dev21 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_539 : BitVec 32 := 7#32
  let v580 : BitVec 32 := Scalar.addi v2 c7_i32_539
  let c8_i32_540 : BitVec 32 := 8#32
  let c0_i32_541 : BitVec 32 := 0#32
  let v581 : BitVec 1 := Scalar.cmpi .eq c8_i32_540 c0_i32_541
  let c1_i32_542 : BitVec 32 := 1#32
  let v582 : BitVec 32 := Scalar.select v581 c1_i32_542 c8_i32_540
  let v583 : BitVec 32 := Scalar.remsi v580 v582
  let c0_i32_544 : BitVec 32 := 0#32
  let v585 : BitVec 1 := Scalar.cmpi .slt v583 c0_i32_544
  let c0_i32_545 : BitVec 32 := 0#32
  let v586 : BitVec 1 := Scalar.cmpi .slt v582 c0_i32_545
  let v587 : BitVec 1 := Scalar.xori v585 v586
  let c0_i32_543 : BitVec 32 := 0#32
  let v584 : BitVec 1 := Scalar.cmpi .ne v583 c0_i32_543
  let v588 : BitVec 1 := Scalar.andi v587 v584
  let v589 : BitVec 32 := Scalar.addi v583 v582
  let v590 : BitVec 32 := Scalar.select v588 v589 v583
  let c1_i32_552 : BitVec 32 := 1#32
  let v591 : BitVec 32 := Scalar.muli v590 c1_i32_552
  let v592 : BitVec 32 := Scalar.addi c0_i32_553 v591
  v592.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v657 : Index := Scalar.indexCast v2
  let c0_656 : Index := 0#32
  let c0_657 : Index := 0#32
  ![v657.toNat, 0, 0]
def k0_dev22 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_689 : BitVec 32 := 1#32
  let v693 : BitVec 32 := Scalar.addi v2 c1_i32_689
  let c8_i32_690 : BitVec 32 := 8#32
  let c0_i32_691 : BitVec 32 := 0#32
  let v694 : BitVec 1 := Scalar.cmpi .eq c8_i32_690 c0_i32_691
  let c1_i32_692 : BitVec 32 := 1#32
  let v695 : BitVec 32 := Scalar.select v694 c1_i32_692 c8_i32_690
  let v696 : BitVec 32 := Scalar.remsi v693 v695
  let c0_i32_694 : BitVec 32 := 0#32
  let v698 : BitVec 1 := Scalar.cmpi .slt v696 c0_i32_694
  let c0_i32_695 : BitVec 32 := 0#32
  let v699 : BitVec 1 := Scalar.cmpi .slt v695 c0_i32_695
  let v700 : BitVec 1 := Scalar.xori v698 v699
  let c0_i32_693 : BitVec 32 := 0#32
  let v697 : BitVec 1 := Scalar.cmpi .ne v696 c0_i32_693
  let v701 : BitVec 1 := Scalar.andi v700 v697
  let v702 : BitVec 32 := Scalar.addi v696 v695
  let v703 : BitVec 32 := Scalar.select v701 v702 v696
  let c1_i32_703 : BitVec 32 := 1#32
  let v704 : BitVec 32 := Scalar.muli v703 c1_i32_703
  let v705 : BitVec 32 := Scalar.addi c0_i32_704 v704
  v705.toNat
def k0_dev23 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_709 : BitVec 32 := 2#32
  let v714 : BitVec 32 := Scalar.addi v2 c2_i32_709
  let c8_i32_710 : BitVec 32 := 8#32
  let c0_i32_711 : BitVec 32 := 0#32
  let v715 : BitVec 1 := Scalar.cmpi .eq c8_i32_710 c0_i32_711
  let c1_i32_712 : BitVec 32 := 1#32
  let v716 : BitVec 32 := Scalar.select v715 c1_i32_712 c8_i32_710
  let v717 : BitVec 32 := Scalar.remsi v714 v716
  let c0_i32_714 : BitVec 32 := 0#32
  let v719 : BitVec 1 := Scalar.cmpi .slt v717 c0_i32_714
  let c0_i32_715 : BitVec 32 := 0#32
  let v720 : BitVec 1 := Scalar.cmpi .slt v716 c0_i32_715
  let v721 : BitVec 1 := Scalar.xori v719 v720
  let c0_i32_713 : BitVec 32 := 0#32
  let v718 : BitVec 1 := Scalar.cmpi .ne v717 c0_i32_713
  let v722 : BitVec 1 := Scalar.andi v721 v718
  let v723 : BitVec 32 := Scalar.addi v717 v716
  let v724 : BitVec 32 := Scalar.select v722 v723 v717
  let c1_i32_723 : BitVec 32 := 1#32
  let v725 : BitVec 32 := Scalar.muli v724 c1_i32_723
  let v726 : BitVec 32 := Scalar.addi c0_i32_724 v725
  v726.toNat
def k0_dev24 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_729 : BitVec 32 := 3#32
  let v735 : BitVec 32 := Scalar.addi v2 c3_i32_729
  let c8_i32_730 : BitVec 32 := 8#32
  let c0_i32_731 : BitVec 32 := 0#32
  let v736 : BitVec 1 := Scalar.cmpi .eq c8_i32_730 c0_i32_731
  let c1_i32_732 : BitVec 32 := 1#32
  let v737 : BitVec 32 := Scalar.select v736 c1_i32_732 c8_i32_730
  let v738 : BitVec 32 := Scalar.remsi v735 v737
  let c0_i32_734 : BitVec 32 := 0#32
  let v740 : BitVec 1 := Scalar.cmpi .slt v738 c0_i32_734
  let c0_i32_735 : BitVec 32 := 0#32
  let v741 : BitVec 1 := Scalar.cmpi .slt v737 c0_i32_735
  let v742 : BitVec 1 := Scalar.xori v740 v741
  let c0_i32_733 : BitVec 32 := 0#32
  let v739 : BitVec 1 := Scalar.cmpi .ne v738 c0_i32_733
  let v743 : BitVec 1 := Scalar.andi v742 v739
  let v744 : BitVec 32 := Scalar.addi v738 v737
  let v745 : BitVec 32 := Scalar.select v743 v744 v738
  let c1_i32_743 : BitVec 32 := 1#32
  let v746 : BitVec 32 := Scalar.muli v745 c1_i32_743
  let v747 : BitVec 32 := Scalar.addi c0_i32_744 v746
  v747.toNat
def k0_dev25 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_749 : BitVec 32 := 4#32
  let v756 : BitVec 32 := Scalar.addi v2 c4_i32_749
  let c8_i32_750 : BitVec 32 := 8#32
  let c0_i32_751 : BitVec 32 := 0#32
  let v757 : BitVec 1 := Scalar.cmpi .eq c8_i32_750 c0_i32_751
  let c1_i32_752 : BitVec 32 := 1#32
  let v758 : BitVec 32 := Scalar.select v757 c1_i32_752 c8_i32_750
  let v759 : BitVec 32 := Scalar.remsi v756 v758
  let c0_i32_754 : BitVec 32 := 0#32
  let v761 : BitVec 1 := Scalar.cmpi .slt v759 c0_i32_754
  let c0_i32_755 : BitVec 32 := 0#32
  let v762 : BitVec 1 := Scalar.cmpi .slt v758 c0_i32_755
  let v763 : BitVec 1 := Scalar.xori v761 v762
  let c0_i32_753 : BitVec 32 := 0#32
  let v760 : BitVec 1 := Scalar.cmpi .ne v759 c0_i32_753
  let v764 : BitVec 1 := Scalar.andi v763 v760
  let v765 : BitVec 32 := Scalar.addi v759 v758
  let v766 : BitVec 32 := Scalar.select v764 v765 v759
  let c1_i32_763 : BitVec 32 := 1#32
  let v767 : BitVec 32 := Scalar.muli v766 c1_i32_763
  let v768 : BitVec 32 := Scalar.addi c0_i32_764 v767
  v768.toNat
def k0_dev26 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_769 : BitVec 32 := 5#32
  let v777 : BitVec 32 := Scalar.addi v2 c5_i32_769
  let c8_i32_770 : BitVec 32 := 8#32
  let c0_i32_771 : BitVec 32 := 0#32
  let v778 : BitVec 1 := Scalar.cmpi .eq c8_i32_770 c0_i32_771
  let c1_i32_772 : BitVec 32 := 1#32
  let v779 : BitVec 32 := Scalar.select v778 c1_i32_772 c8_i32_770
  let v780 : BitVec 32 := Scalar.remsi v777 v779
  let c0_i32_774 : BitVec 32 := 0#32
  let v782 : BitVec 1 := Scalar.cmpi .slt v780 c0_i32_774
  let c0_i32_775 : BitVec 32 := 0#32
  let v783 : BitVec 1 := Scalar.cmpi .slt v779 c0_i32_775
  let v784 : BitVec 1 := Scalar.xori v782 v783
  let c0_i32_773 : BitVec 32 := 0#32
  let v781 : BitVec 1 := Scalar.cmpi .ne v780 c0_i32_773
  let v785 : BitVec 1 := Scalar.andi v784 v781
  let v786 : BitVec 32 := Scalar.addi v780 v779
  let v787 : BitVec 32 := Scalar.select v785 v786 v780
  let c1_i32_783 : BitVec 32 := 1#32
  let v788 : BitVec 32 := Scalar.muli v787 c1_i32_783
  let v789 : BitVec 32 := Scalar.addi c0_i32_784 v788
  v789.toNat
def k0_dev27 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_789 : BitVec 32 := 6#32
  let v798 : BitVec 32 := Scalar.addi v2 c6_i32_789
  let c8_i32_790 : BitVec 32 := 8#32
  let c0_i32_791 : BitVec 32 := 0#32
  let v799 : BitVec 1 := Scalar.cmpi .eq c8_i32_790 c0_i32_791
  let c1_i32_792 : BitVec 32 := 1#32
  let v800 : BitVec 32 := Scalar.select v799 c1_i32_792 c8_i32_790
  let v801 : BitVec 32 := Scalar.remsi v798 v800
  let c0_i32_794 : BitVec 32 := 0#32
  let v803 : BitVec 1 := Scalar.cmpi .slt v801 c0_i32_794
  let c0_i32_795 : BitVec 32 := 0#32
  let v804 : BitVec 1 := Scalar.cmpi .slt v800 c0_i32_795
  let v805 : BitVec 1 := Scalar.xori v803 v804
  let c0_i32_793 : BitVec 32 := 0#32
  let v802 : BitVec 1 := Scalar.cmpi .ne v801 c0_i32_793
  let v806 : BitVec 1 := Scalar.andi v805 v802
  let v807 : BitVec 32 := Scalar.addi v801 v800
  let v808 : BitVec 32 := Scalar.select v806 v807 v801
  let c1_i32_803 : BitVec 32 := 1#32
  let v809 : BitVec 32 := Scalar.muli v808 c1_i32_803
  let v810 : BitVec 32 := Scalar.addi c0_i32_804 v809
  v810.toNat
def k0_dev28 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_809 : BitVec 32 := 7#32
  let v819 : BitVec 32 := Scalar.addi v2 c7_i32_809
  let c8_i32_810 : BitVec 32 := 8#32
  let c0_i32_811 : BitVec 32 := 0#32
  let v820 : BitVec 1 := Scalar.cmpi .eq c8_i32_810 c0_i32_811
  let c1_i32_812 : BitVec 32 := 1#32
  let v821 : BitVec 32 := Scalar.select v820 c1_i32_812 c8_i32_810
  let v822 : BitVec 32 := Scalar.remsi v819 v821
  let c0_i32_814 : BitVec 32 := 0#32
  let v824 : BitVec 1 := Scalar.cmpi .slt v822 c0_i32_814
  let c0_i32_815 : BitVec 32 := 0#32
  let v825 : BitVec 1 := Scalar.cmpi .slt v821 c0_i32_815
  let v826 : BitVec 1 := Scalar.xori v824 v825
  let c0_i32_813 : BitVec 32 := 0#32
  let v823 : BitVec 1 := Scalar.cmpi .ne v822 c0_i32_813
  let v827 : BitVec 1 := Scalar.andi v826 v823
  let v828 : BitVec 32 := Scalar.addi v822 v821
  let v829 : BitVec 32 := Scalar.select v827 v828 v822
  let c1_i32_823 : BitVec 32 := 1#32
  let v830 : BitVec 32 := Scalar.muli v829 c1_i32_823
  let v831 : BitVec 32 := Scalar.addi c0_i32_824 v830
  v831.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v896 : Index := Scalar.indexCast v2
  let c0_927 : Index := 0#32
  let c256 : Index := 256#32
  ![v896.toNat, 0, 256]
def k0_dev29 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_959 : BitVec 32 := 1#32
  let v932 : BitVec 32 := Scalar.addi v2 c1_i32_959
  let c8_i32_960 : BitVec 32 := 8#32
  let c0_i32_961 : BitVec 32 := 0#32
  let v933 : BitVec 1 := Scalar.cmpi .eq c8_i32_960 c0_i32_961
  let c1_i32_962 : BitVec 32 := 1#32
  let v934 : BitVec 32 := Scalar.select v933 c1_i32_962 c8_i32_960
  let v935 : BitVec 32 := Scalar.remsi v932 v934
  let c0_i32_964 : BitVec 32 := 0#32
  let v937 : BitVec 1 := Scalar.cmpi .slt v935 c0_i32_964
  let c0_i32_965 : BitVec 32 := 0#32
  let v938 : BitVec 1 := Scalar.cmpi .slt v934 c0_i32_965
  let v939 : BitVec 1 := Scalar.xori v937 v938
  let c0_i32_963 : BitVec 32 := 0#32
  let v936 : BitVec 1 := Scalar.cmpi .ne v935 c0_i32_963
  let v940 : BitVec 1 := Scalar.andi v939 v936
  let v941 : BitVec 32 := Scalar.addi v935 v934
  let v942 : BitVec 32 := Scalar.select v940 v941 v935
  let c1_i32_973 : BitVec 32 := 1#32
  let v943 : BitVec 32 := Scalar.muli v942 c1_i32_973
  let v944 : BitVec 32 := Scalar.addi c0_i32_974 v943
  v944.toNat
def k0_dev30 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_979 : BitVec 32 := 2#32
  let v953 : BitVec 32 := Scalar.addi v2 c2_i32_979
  let c8_i32_980 : BitVec 32 := 8#32
  let c0_i32_981 : BitVec 32 := 0#32
  let v954 : BitVec 1 := Scalar.cmpi .eq c8_i32_980 c0_i32_981
  let c1_i32_982 : BitVec 32 := 1#32
  let v955 : BitVec 32 := Scalar.select v954 c1_i32_982 c8_i32_980
  let v956 : BitVec 32 := Scalar.remsi v953 v955
  let c0_i32_984 : BitVec 32 := 0#32
  let v958 : BitVec 1 := Scalar.cmpi .slt v956 c0_i32_984
  let c0_i32_985 : BitVec 32 := 0#32
  let v959 : BitVec 1 := Scalar.cmpi .slt v955 c0_i32_985
  let v960 : BitVec 1 := Scalar.xori v958 v959
  let c0_i32_983 : BitVec 32 := 0#32
  let v957 : BitVec 1 := Scalar.cmpi .ne v956 c0_i32_983
  let v961 : BitVec 1 := Scalar.andi v960 v957
  let v962 : BitVec 32 := Scalar.addi v956 v955
  let v963 : BitVec 32 := Scalar.select v961 v962 v956
  let c1_i32_993 : BitVec 32 := 1#32
  let v964 : BitVec 32 := Scalar.muli v963 c1_i32_993
  let v965 : BitVec 32 := Scalar.addi c0_i32_994 v964
  v965.toNat
def k0_dev31 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_999 : BitVec 32 := 3#32
  let v974 : BitVec 32 := Scalar.addi v2 c3_i32_999
  let c8_i32_1000 : BitVec 32 := 8#32
  let c0_i32_1001 : BitVec 32 := 0#32
  let v975 : BitVec 1 := Scalar.cmpi .eq c8_i32_1000 c0_i32_1001
  let c1_i32_1002 : BitVec 32 := 1#32
  let v976 : BitVec 32 := Scalar.select v975 c1_i32_1002 c8_i32_1000
  let v977 : BitVec 32 := Scalar.remsi v974 v976
  let c0_i32_1004 : BitVec 32 := 0#32
  let v979 : BitVec 1 := Scalar.cmpi .slt v977 c0_i32_1004
  let c0_i32_1005 : BitVec 32 := 0#32
  let v980 : BitVec 1 := Scalar.cmpi .slt v976 c0_i32_1005
  let v981 : BitVec 1 := Scalar.xori v979 v980
  let c0_i32_1003 : BitVec 32 := 0#32
  let v978 : BitVec 1 := Scalar.cmpi .ne v977 c0_i32_1003
  let v982 : BitVec 1 := Scalar.andi v981 v978
  let v983 : BitVec 32 := Scalar.addi v977 v976
  let v984 : BitVec 32 := Scalar.select v982 v983 v977
  let c1_i32_1013 : BitVec 32 := 1#32
  let v985 : BitVec 32 := Scalar.muli v984 c1_i32_1013
  let v986 : BitVec 32 := Scalar.addi c0_i32_1014 v985
  v986.toNat
def k0_dev32 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1019 : BitVec 32 := 4#32
  let v995 : BitVec 32 := Scalar.addi v2 c4_i32_1019
  let c8_i32_1020 : BitVec 32 := 8#32
  let c0_i32_1021 : BitVec 32 := 0#32
  let v996 : BitVec 1 := Scalar.cmpi .eq c8_i32_1020 c0_i32_1021
  let c1_i32_1022 : BitVec 32 := 1#32
  let v997 : BitVec 32 := Scalar.select v996 c1_i32_1022 c8_i32_1020
  let v998 : BitVec 32 := Scalar.remsi v995 v997
  let c0_i32_1024 : BitVec 32 := 0#32
  let v1000 : BitVec 1 := Scalar.cmpi .slt v998 c0_i32_1024
  let c0_i32_1025 : BitVec 32 := 0#32
  let v1001 : BitVec 1 := Scalar.cmpi .slt v997 c0_i32_1025
  let v1002 : BitVec 1 := Scalar.xori v1000 v1001
  let c0_i32_1023 : BitVec 32 := 0#32
  let v999 : BitVec 1 := Scalar.cmpi .ne v998 c0_i32_1023
  let v1003 : BitVec 1 := Scalar.andi v1002 v999
  let v1004 : BitVec 32 := Scalar.addi v998 v997
  let v1005 : BitVec 32 := Scalar.select v1003 v1004 v998
  let c1_i32_1033 : BitVec 32 := 1#32
  let v1006 : BitVec 32 := Scalar.muli v1005 c1_i32_1033
  let v1007 : BitVec 32 := Scalar.addi c0_i32_1034 v1006
  v1007.toNat
def k0_dev33 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1039 : BitVec 32 := 5#32
  let v1016 : BitVec 32 := Scalar.addi v2 c5_i32_1039
  let c8_i32_1040 : BitVec 32 := 8#32
  let c0_i32_1041 : BitVec 32 := 0#32
  let v1017 : BitVec 1 := Scalar.cmpi .eq c8_i32_1040 c0_i32_1041
  let c1_i32_1042 : BitVec 32 := 1#32
  let v1018 : BitVec 32 := Scalar.select v1017 c1_i32_1042 c8_i32_1040
  let v1019 : BitVec 32 := Scalar.remsi v1016 v1018
  let c0_i32_1044 : BitVec 32 := 0#32
  let v1021 : BitVec 1 := Scalar.cmpi .slt v1019 c0_i32_1044
  let c0_i32_1045 : BitVec 32 := 0#32
  let v1022 : BitVec 1 := Scalar.cmpi .slt v1018 c0_i32_1045
  let v1023 : BitVec 1 := Scalar.xori v1021 v1022
  let c0_i32_1043 : BitVec 32 := 0#32
  let v1020 : BitVec 1 := Scalar.cmpi .ne v1019 c0_i32_1043
  let v1024 : BitVec 1 := Scalar.andi v1023 v1020
  let v1025 : BitVec 32 := Scalar.addi v1019 v1018
  let v1026 : BitVec 32 := Scalar.select v1024 v1025 v1019
  let c1_i32_1053 : BitVec 32 := 1#32
  let v1027 : BitVec 32 := Scalar.muli v1026 c1_i32_1053
  let v1028 : BitVec 32 := Scalar.addi c0_i32_1054 v1027
  v1028.toNat
def k0_dev34 (d0 : Dev nD) : Nat :=
  let c0_i32_1074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1059 : BitVec 32 := 6#32
  let v1037 : BitVec 32 := Scalar.addi v2 c6_i32_1059
  let c8_i32_1060 : BitVec 32 := 8#32
  let c0_i32_1061 : BitVec 32 := 0#32
  let v1038 : BitVec 1 := Scalar.cmpi .eq c8_i32_1060 c0_i32_1061
  let c1_i32_1062 : BitVec 32 := 1#32
  let v1039 : BitVec 32 := Scalar.select v1038 c1_i32_1062 c8_i32_1060
  let v1040 : BitVec 32 := Scalar.remsi v1037 v1039
  let c0_i32_1064 : BitVec 32 := 0#32
  let v1042 : BitVec 1 := Scalar.cmpi .slt v1040 c0_i32_1064
  let c0_i32_1065 : BitVec 32 := 0#32
  let v1043 : BitVec 1 := Scalar.cmpi .slt v1039 c0_i32_1065
  let v1044 : BitVec 1 := Scalar.xori v1042 v1043
  let c0_i32_1063 : BitVec 32 := 0#32
  let v1041 : BitVec 1 := Scalar.cmpi .ne v1040 c0_i32_1063
  let v1045 : BitVec 1 := Scalar.andi v1044 v1041
  let v1046 : BitVec 32 := Scalar.addi v1040 v1039
  let v1047 : BitVec 32 := Scalar.select v1045 v1046 v1040
  let c1_i32_1073 : BitVec 32 := 1#32
  let v1048 : BitVec 32 := Scalar.muli v1047 c1_i32_1073
  let v1049 : BitVec 32 := Scalar.addi c0_i32_1074 v1048
  v1049.toNat
def k0_dev35 (d0 : Dev nD) : Nat :=
  let c0_i32_1094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1079 : BitVec 32 := 7#32
  let v1058 : BitVec 32 := Scalar.addi v2 c7_i32_1079
  let c8_i32_1080 : BitVec 32 := 8#32
  let c0_i32_1081 : BitVec 32 := 0#32
  let v1059 : BitVec 1 := Scalar.cmpi .eq c8_i32_1080 c0_i32_1081
  let c1_i32_1082 : BitVec 32 := 1#32
  let v1060 : BitVec 32 := Scalar.select v1059 c1_i32_1082 c8_i32_1080
  let v1061 : BitVec 32 := Scalar.remsi v1058 v1060
  let c0_i32_1084 : BitVec 32 := 0#32
  let v1063 : BitVec 1 := Scalar.cmpi .slt v1061 c0_i32_1084
  let c0_i32_1085 : BitVec 32 := 0#32
  let v1064 : BitVec 1 := Scalar.cmpi .slt v1060 c0_i32_1085
  let v1065 : BitVec 1 := Scalar.xori v1063 v1064
  let c0_i32_1083 : BitVec 32 := 0#32
  let v1062 : BitVec 1 := Scalar.cmpi .ne v1061 c0_i32_1083
  let v1066 : BitVec 1 := Scalar.andi v1065 v1062
  let v1067 : BitVec 32 := Scalar.addi v1061 v1060
  let v1068 : BitVec 32 := Scalar.select v1066 v1067 v1061
  let c1_i32_1093 : BitVec 32 := 1#32
  let v1069 : BitVec 32 := Scalar.muli v1068 c1_i32_1093
  let v1070 : BitVec 32 := Scalar.addi c0_i32_1094 v1069
  v1070.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v1079 : BitVec 32 := Scalar.muli v2 c64_i32
  let v1080 : Index := Scalar.indexCast v1079
  let c0_1099 : Index := 0#32
  ![v1080.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1100 : BitVec 32 := 64#32
  let v1082 : BitVec 32 := Scalar.muli v2 c64_i32_1100
  let v1083 : Index := Scalar.indexCast v1082
  let c256_1101 : Index := 256#32
  ![v1083.toNat, 256]
def k0_off7 (d0 : Dev nD) (c0_i32_1116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1093 : BitVec 32 := Scalar.addi v2 c0_i32_1116
  let c1_i32_1117 : BitVec 32 := 1#32
  let v1094 : BitVec 32 := Scalar.addi v1093 c1_i32_1117
  let c8_i32_1118 : BitVec 32 := 8#32
  let c0_i32_1119 : BitVec 32 := 0#32
  let v1095 : BitVec 1 := Scalar.cmpi .eq c8_i32_1118 c0_i32_1119
  let c1_i32_1120 : BitVec 32 := 1#32
  let v1096 : BitVec 32 := Scalar.select v1095 c1_i32_1120 c8_i32_1118
  let v1097 : BitVec 32 := Scalar.remsi v1094 v1096
  let c0_i32_1122 : BitVec 32 := 0#32
  let v1099 : BitVec 1 := Scalar.cmpi .slt v1097 c0_i32_1122
  let c0_i32_1123 : BitVec 32 := 0#32
  let v1100 : BitVec 1 := Scalar.cmpi .slt v1096 c0_i32_1123
  let v1101 : BitVec 1 := Scalar.xori v1099 v1100
  let c0_i32_1121 : BitVec 32 := 0#32
  let v1098 : BitVec 1 := Scalar.cmpi .ne v1097 c0_i32_1121
  let v1102 : BitVec 1 := Scalar.andi v1101 v1098
  let v1103 : BitVec 32 := Scalar.addi v1097 v1096
  let v1104 : BitVec 32 := Scalar.select v1102 v1103 v1097
  let c64_i32_1128 : BitVec 32 := 64#32
  let v1108 : BitVec 32 := Scalar.muli v1104 c64_i32_1128
  let v1109 : Index := Scalar.indexCast v1108
  let c0_1129 : Index := 0#32
  ![v1109.toNat, 0]
def k0_off8 (d0 : Dev nD) (c0_i32_1312 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1275 : BitVec 32 := Scalar.addi v2 c0_i32_1312
  let c1_i32_1313 : BitVec 32 := 1#32
  let v1276 : BitVec 32 := Scalar.addi v1275 c1_i32_1313
  let c8_i32_1314 : BitVec 32 := 8#32
  let c0_i32_1315 : BitVec 32 := 0#32
  let v1277 : BitVec 1 := Scalar.cmpi .eq c8_i32_1314 c0_i32_1315
  let c1_i32_1316 : BitVec 32 := 1#32
  let v1278 : BitVec 32 := Scalar.select v1277 c1_i32_1316 c8_i32_1314
  let v1279 : BitVec 32 := Scalar.remsi v1276 v1278
  let c0_i32_1318 : BitVec 32 := 0#32
  let v1281 : BitVec 1 := Scalar.cmpi .slt v1279 c0_i32_1318
  let c0_i32_1319 : BitVec 32 := 0#32
  let v1282 : BitVec 1 := Scalar.cmpi .slt v1278 c0_i32_1319
  let v1283 : BitVec 1 := Scalar.xori v1281 v1282
  let c0_i32_1317 : BitVec 32 := 0#32
  let v1280 : BitVec 1 := Scalar.cmpi .ne v1279 c0_i32_1317
  let v1284 : BitVec 1 := Scalar.andi v1283 v1280
  let v1285 : BitVec 32 := Scalar.addi v1279 v1278
  let v1286 : BitVec 32 := Scalar.select v1284 v1285 v1279
  let c64_i32_1324 : BitVec 32 := 64#32
  let v1290 : BitVec 32 := Scalar.muli v1286 c64_i32_1324
  let v1291 : Index := Scalar.indexCast v1290
  let c256_1325 : Index := 256#32
  ![v1291.toNat, 256]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x16384 : Shape := ⟨2, ![512, 16384]⟩
abbrev S16384x512 : Shape := ⟨2, ![16384, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S16384x512, .f32⟩
  | .hbm, ⟨3, _⟩ => ⟨S512x512, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Frame

/-! # The kernel's body as loops

The printed kernel writes out every copy, signal, wait, load and store of its eight devices' program
one after another. Here the same sequence is written as loops over small index sets: a column block
`t` of the contraction, a half `h` of the columns, a slot `s` of a landing buffer, a distance `r` on
the ring of devices. That the two are the same
program is `body_eq`, a module on its own. -/

@[expose] public section

set_option synthInstance.maxSize 4096

noncomputable section

namespace Cert.KernelIdeal.Proof

open Idealize.ShloMosaic Idealize.SL.Sem Cert.KernelIdeal.Gen

variable {F : FTy → Type} [FloatOps F]

/-! ## The buffers' windows -/

/-- The left factor, in main memory. -/
abbrev bufDy : Memref sig .tc .hbm S512x2048 .f32 := Memref.whole main_arg0
/-- The right factor, in main memory. -/
abbrev bufW : Memref sig .tc .hbm S512x2048 .f32 := Memref.whole main_arg1
/-- The staging buffer of the result. -/
abbrev bufOut : Memref sig .tc .vmem S512x512 .f32 := win0_0.stage (cfg0.slots t0_0 0)
/-- The copy of the left factor, by column blocks. -/
abbrev bufDyV : Memref sig .tc .vmem S8x512x256 .f32 := Memref.whole cc0_scratch0
/-- The copy of the right factor, by column blocks. -/
abbrev bufWV : Memref sig .tc .vmem S8x512x256 .f32 := Memref.whole cc0_scratch1
/-- The device's own product, by row blocks. -/
abbrev bufPart : Memref sig .tc .vmem S8x64x512 .bf16 := Memref.whole cc0_scratch2
/-- The device's reduced rows, by halves. -/
abbrev bufRed : Memref sig .tc .vmem S2x64x256 .bf16 := Memref.whole cc0_scratch3
/-- The slots in which the other devices' products land. -/
abbrev bufRs : Memref sig .tc .vmem S2x7x64x256 .bf16 := Memref.whole cc0_scratch4
/-- The slots in which the other devices' reduced rows land. -/
abbrev bufAg : Memref sig .tc .vmem S2x7x64x256 .bf16 := Memref.whole cc0_scratch5

/-- Column block `t` of a factor lies within it. -/
theorem inb_col : ∀ (t : Fin 8) a, (![0, 256 * t.val] : Fin 2 → Nat) a + S512x256.size a ≤ S512x2048.size a := by decide +kernel
/-- Block `t` of a factor's copy lies within it. -/
theorem inb_blk : ∀ (t : Fin 8) a, (![t.val, 0, 0] : Fin 3 → Nat) a + S1x512x256.size a ≤ S8x512x256.size a := by decide +kernel
/-- The semaphore of an input copy lies within their array. -/
theorem inb_insem : ∀ (t : Fin 8) (b : Fin 2) a, (![2 * t.val + b.val] : Fin 1 → Nat) a + S1.size a ≤ S16.size a := by decide +kernel
/-- Slot `s` of half `h` lies within a landing buffer. -/
theorem inb_slot : ∀ (h : Fin 2) (s : Fin 7) a, (![h.val, s.val, 0, 0] : Fin 4 → Nat) a + S1x1x64x256.size a ≤ S2x7x64x256.size a := by decide +kernel
/-- A slot of a landing buffer is whole words. -/
theorem words_slot : ∀ (h : Fin 2) (s : Fin 7), (Rect.unit (s := S2x7x64x256) ![h.val, s.val, 0, 0] S1x1x64x256.size (inb_slot h s)).WholeWords (EltTy.packing .bf16) := by decide +kernel
/-- A transfer's semaphore lies within its array. -/
theorem inb_xsem : ∀ (h : Fin 2) (s : Fin 7) a, (![h.val, s.val] : Fin 2 → Nat) a + S1x1.size a ≤ S2x7.size a := by decide +kernel
/-- Half `h` of the reduced rows lies within its buffer. -/
theorem inb_red : ∀ (h : Fin 2) a, (![h.val, 0, 0] : Fin 3 → Nat) a + S1x64x256.size a ≤ S2x64x256.size a := by decide +kernel
/-- A half of the reduced rows is whole words. -/
theorem words_red : ∀ (h : Fin 2), (Rect.unit (s := S2x64x256) ![h.val, 0, 0] S1x64x256.size (inb_red h)).WholeWords (EltTy.packing .bf16) := by decide +kernel
/-- A half of the reduced rows is packed. -/
theorem packed_red : ∀ (h : Fin 2), (Rect.unit (s := S2x64x256) ![h.val, 0, 0] S1x64x256.size (inb_red h)).PackedRows (EltTy.packing .bf16) := by decide +kernel

/-- The ring distance of place `i`. -/
abbrev dist (i : Fin 7) : Dev nD := ⟨i.val + 1, Nat.succ_lt_succ i.isLt⟩

/-- The slot a block sent at distance `i + 1` lands in. -/
def opp (i : Fin 7) : Fin 7 := ⟨6 - i.val, by omega⟩

/-- Where the rows and columns a device sends at distance `i + 1` start in its product. -/
def offSend (h : Fin 2) (i : Fin 7) (d : Dev nD) : Fin 3 → Nat :=
  match h with
  | 0 => k0_off1 d (BitVec.ofNat 32 (1 + i.val))
  | 1 => k0_off2 d (BitVec.ofNat 32 (1 + i.val))
/-- Where the rows a device keeps start in its product. -/
def offOwn (h : Fin 2) (d : Dev nD) : Fin 3 → Nat := match h with | 0 => k0_off3 d | 1 => k0_off4 d
/-- Where the rows a device reduced start in the result. -/
def offRes (h : Fin 2) (d : Dev nD) : Fin 2 → Nat := match h with | 0 => k0_off5 d | 1 => k0_off6 d
/-- Where the rows landing in slot `s` start in the result. -/
def offGot (h : Fin 2) (s : Fin 7) (d : Dev nD) : Fin 2 → Nat :=
  match h with
  | 0 => k0_off7 d (BitVec.ofNat 32 s.val)
  | 1 => k0_off8 d (BitVec.ofNat 32 s.val)

/-- What is sent starts at the row block of the device it goes to. -/
theorem offSend_eq : ∀ h i d, offSend h i d = ![(d + dist i).val, 0, 256 * h.val] := by decide +kernel
/-- What is kept starts at the device's own row block. -/
theorem offOwn_eq : ∀ h d, offOwn h d = ![d.val, 0, 256 * h.val] := by decide +kernel
/-- The reduced rows start at the device's own row block. -/
theorem offRes_eq : ∀ h d, offRes h d = ![64 * d.val, 256 * h.val] := by decide +kernel
/-- The rows of slot `s` start at the row block of the device they come from. -/
theorem offGot_eq : ∀ h s d, offGot h s d = ![64 * (d + dist s).val, 256 * h.val] := by decide +kernel

/-- What is sent lies within the product. -/
theorem inb_send (h : Fin 2) (i : Fin 7) (d : Dev nD) : ∀ a, offSend h i d a + S1x64x256.size a ≤ S8x64x512.size a :=
  match h with | 0 => k0_off1_inb d i | 1 => k0_off2_inb d i
/-- What is sent is whole words. -/
theorem words_send (h : Fin 2) (i : Fin 7) (d : Dev nD) : (Rect.unit (s := S8x64x512) (offSend h i d) S1x64x256.size (inb_send h i d)).WholeWords (EltTy.packing .bf16) :=
  match h with | 0 => k0_off1_wordsbf16 d i | 1 => k0_off2_wordsbf16 d i
/-- What is kept lies within the product. -/
theorem inb_own (h : Fin 2) (d : Dev nD) : ∀ a, offOwn h d a + S1x64x256.size a ≤ S8x64x512.size a :=
  match h with | 0 => k0_off3_inb d | 1 => k0_off4_inb d
/-- The reduced rows lie within the result. -/
theorem inb_res (h : Fin 2) (d : Dev nD) : ∀ a, offRes h d a + S64x256.size a ≤ S512x512.size a :=
  match h with | 0 => k0_off5_inb d | 1 => k0_off6_inb d
/-- The rows of a slot lie within the result. -/
theorem inb_got (h : Fin 2) (s : Fin 7) (d : Dev nD) : ∀ a, offGot h s d a + S64x256.size a ≤ S512x512.size a :=
  match h with | 0 => k0_off7_inb d s | 1 => k0_off8_inb d s

/-- Factor `b` in main memory. -/
abbrev bufIn (b : Fin 2) : Memref sig .tc .hbm S512x2048 .f32 := match b with | 0 => bufDy | 1 => bufW
/-- The copy of factor `b`. -/
abbrev bufInV (b : Fin 2) : Memref sig .tc .vmem S8x512x256 .f32 := match b with | 0 => bufDyV | 1 => bufWV

/-- Column block `t` of factor `b`. -/
abbrev colM (b : Fin 2) (t : Fin 8) : Memref sig .tc .hbm S512x256 .f32 :=
  (bufIn b).slice (Rect.unit (s := S512x2048) ![0, 256 * t.val] S512x256.size (inb_col t)) (fun _ => rfl)
/-- Block `t` of a factor's copy. -/
abbrev blkR (t : Fin 8) : Rect S8x512x256 := Rect.unit (s := S8x512x256) ![t.val, 0, 0] S1x512x256.size (inb_blk t)
/-- Block `t` of the copy of factor `b`. -/
abbrev blkM (b : Fin 2) (t : Fin 8) : Memref sig .tc .vmem S512x256 .f32 :=
  ((bufInV b).slice (blkR t) (fun _ => rfl)).squeeze S512x256 squeezes_S1x512x256_S512x256
/-- The semaphore of the copy of block `t` of factor `b`. -/
abbrev inSem (b : Fin 2) (t : Fin 8) : DmaSem sig :=
  ((cc0_scratch6.slice (Rect.unit (s := S16) ![2 * t.val + b.val] S1.size (inb_insem t b))).squeeze S_ squeezes_S1_S_).sem
/-- A slot of a landing buffer. -/
abbrev slotR (h : Fin 2) (s : Fin 7) : Rect S2x7x64x256 := Rect.unit (s := S2x7x64x256) ![h.val, s.val, 0, 0] S1x1x64x256.size (inb_slot h s)
/-- A slot for the other devices' products. -/
abbrev rsM (h : Fin 2) (s : Fin 7) : Memref sig .tc .vmem S64x256 .bf16 :=
  (bufRs.slice (slotR h s) (fun _ => rfl)).squeeze S64x256 squeezes_S1x1x64x256_S64x256
/-- A slot for the other devices' reduced rows. -/
abbrev agM (h : Fin 2) (s : Fin 7) : Memref sig .tc .vmem S64x256 .bf16 :=
  (bufAg.slice (slotR h s) (fun _ => rfl)).squeeze S64x256 squeezes_S1x1x64x256_S64x256
/-- A piece of the product, at the offsets given. -/
abbrev partM (off : Fin 3 → Nat) (inb : ∀ a, off a + S1x64x256.size a ≤ S8x64x512.size a) : Memref sig .tc .vmem S64x256 .bf16 :=
  (bufPart.slice (Rect.unit (s := S8x64x512) off S1x64x256.size inb) (fun _ => rfl)).squeeze S64x256 squeezes_S1x64x256_S64x256
/-- Half `h` of the reduced rows' buffer. -/
abbrev redR (h : Fin 2) : Rect S2x64x256 := Rect.unit (s := S2x64x256) ![h.val, 0, 0] S1x64x256.size (inb_red h)
/-- The reduced rows' half `h`. -/
abbrev redM (h : Fin 2) : Memref sig .tc .vmem S64x256 .bf16 :=
  (bufRed.slice (redR h) (fun _ => rfl)).squeeze S64x256 squeezes_S1x64x256_S64x256
/-- The semaphore at a place of an array of transfers' semaphores. -/
abbrev xSem (A : DmaSems sig S2x7) (h : Fin 2) (s : Fin 7) : DmaSem sig :=
  ((A.slice (Rect.unit (s := S2x7) ![h.val, s.val] S1x1.size (inb_xsem h s))).squeeze S_ squeezes_S1x1_S_).sem
/-- The barrier's semaphore. -/
abbrev barS : Sem sig := (SemArray.scalar (sig.barrier 0 rfl) : Sems sig S_).sem

theorem we_blk (b : Fin 2) (t : Fin 8) : (blkM b t).view.WordExact := match b with | 0 => (View.wordExact_bits rfl).reshape _ _ | 1 => (View.wordExact_bits rfl).reshape _ _
theorem we_col (b : Fin 2) (t : Fin 8) : (colM b t).view.WordExact := match b with | 0 => View.wordExact_bits rfl | 1 => View.wordExact_bits rfl
theorem we_rs (h : Fin 2) (s : Fin 7) : (rsM h s).view.WordExact := ((Memref.isWhole_whole _).wordExact_slice rfl _ (words_slot h s)).reshape _ _
theorem we_ag (h : Fin 2) (s : Fin 7) : (agM h s).view.WordExact := ((Memref.isWhole_whole _).wordExact_slice rfl _ (words_slot h s)).reshape _ _
theorem we_red (h : Fin 2) : (redM h).view.WordExact := ((Memref.isWhole_whole _).wordExact_slice rfl _ (words_red h)).reshape _ _
theorem we_send (h : Fin 2) (i : Fin 7) (d : Dev nD) : (partM (offSend h i d) (inb_send h i d)).view.WordExact :=
  ((Memref.isWhole_whole _).wordExact_slice rfl _ (words_send h i d)).reshape _ _

/-! ## The devices a device signals and sends to -/

/-- The device signalled at distance `i + 1`. -/
def devSig (d : Dev nD) (i : Fin 7) : Dev nD := (![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩] : Fin 7 → Dev nD) i
/-- The device a piece of the product goes to, at distance `i + 1`. -/
def devRs (h : Fin 2) (d : Dev nD) (i : Fin 7) : Dev nD := match h with
  | 0 => (![⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩] : Fin 7 → Dev nD) i
  | 1 => (![⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩] : Fin 7 → Dev nD) i
/-- The device the reduced rows go to, at distance `i + 1`. -/
def devAg (h : Fin 2) (d : Dev nD) (i : Fin 7) : Dev nD := match h with
  | 0 => (![⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩] : Fin 7 → Dev nD) i
  | 1 => (![⟨k0_dev29 d, k0_dev29_lt d⟩, ⟨k0_dev30 d, k0_dev30_lt d⟩, ⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩] : Fin 7 → Dev nD) i

theorem devSig_eq : ∀ d i, devSig d i = d + dist i := by decide +kernel
theorem devRs_eq : ∀ h d i, devRs h d i = d + dist i := by decide +kernel
theorem devAg_eq : ∀ h d i, devAg h d i = d + dist i := by decide +kernel

/-! ## The program -/

/-- The programs a device runs. -/
abbrev P (F : FTy → Type) [FloatOps F] (α : Type) : Type _ := Prog (TpuEff nD τ sig (Elt F) Λ₀ .tc) α

/-- One program after another, over a list. -/
def loop {ι : Type} (f : ι → P F PUnit) : List ι → P F PUnit
  | [] => pure ⟨⟩
  | i :: l => do f i; loop f l

/-- A value carried through a list of programs. -/
def fold {ι α : Type} (f : ι → α → P F α) : List ι → α → P F α
  | [], a => pure a
  | i :: l, a => do let a ← f i a; fold f l a

/-- All seven places, in order. -/
abbrev sevens : List (Fin 7) := [0, 1, 2, 3, 4, 5, 6]
/-- All eight column blocks, in order. -/
abbrev eights : List (Fin 8) := [0, 1, 2, 3, 4, 5, 6, 7]

/-- Start the copy of block `t` of factor `b`. -/
def fetch1 (b : Fin 2) (t : Fin 8) : P F PUnit :=
  Prog.lift (.enqueueDma (colM b t) (.here (blkM b t)) (.dma (inSem b t)) (we_col b t) (we_blk b t) (match b with | 0 => ⟨Or.inl rfl, trivial⟩ | 1 => ⟨Or.inl rfl, trivial⟩))
/-- Start the copies of block `t`. -/
def fetch (t : Fin 8) : P F PUnit := do fetch1 0 t; fetch1 1 t

/-- Signal the device at distance `i + 1`. -/
def sig1 (d : Dev nD) (i : Fin 7) : P F PUnit := semSignalWord (devSig d i) barS 1#32

/-- Wait for the copy of block `t` of factor `b`. -/
def await1 (b : Fin 2) (t : Fin 8) : P F PUnit :=
  Prog.lift (.waitDma2 (inSem b t) (colM b t) (blkM b t) (we_col b t) (we_blk b t))
/-- Wait for the copies of block `t` and read them. -/
def fetched (t : Fin 8) : P F (Vec F S1x512x256 .f32 × Vec F S1x512x256 .f32) := do
  await1 0 t
  await1 1 t
  let a ← Prog.lift (.load bufDyV (blkR t).toLoadRect (View.loadsAt_vmem h_S1x512x256))
  let b ← Prog.lift (.load bufWV (blkR t).toLoadRect (View.loadsAt_vmem h_S1x512x256))
  pure (a, b)

/-- The product of two blocks, contracted over their columns. -/
def mm (a b : Vec F S1x512x256 .f32) : FVec F S512x512 .f32 :=
  matmul dot_S512x256_S512x256_S512x512_1_1_0_0_n_n none
    (shapeCast S512x256 a shapeCasts_S1x512x256_S512x256) (shapeCast S512x256 b shapeCasts_S1x512x256_S512x256)
    (constant S512x512 .f32 0x00000000#32)

/-- One block's contribution to the product. -/
def mmStep (t : Fin 8) (acc : FVec F S512x512 .f32) : P F (FVec F S512x512 .f32) := do
  let ab ← fetched t
  pure (addf acc (mm ab.1 ab.2))

/-- The product as it is stored: rounded, by row blocks. -/
def packPart (acc : FVec F S512x512 .f32) : FVec F S8x64x512 .bf16 :=
  shapeCast S8x64x512 (shapeCast S8x64x512 (truncf .bf16 acc bitsLt_bf16_f32) shapeCasts_S512x512_S8x64x512) shapeCasts_S8x64x512_S8x64x512

/-- The product of the device's blocks, stored. -/
def product : P F PUnit := do
  let ab ← fetched 0
  let acc ← fold mmStep [1, 2, 3, 4, 5, 6, 7] (mm ab.1 ab.2)
  let _ ← Prog.lift (.load bufPart (Rect.unit (s := S8x64x512) ![0, 0, 0] S8x64x512.size inb_S8x64x512_S8x64x512_0_0_0).toLoadRect (View.loadsAt_vmem h_S8x64x512))
  Prog.lift (.store bufPart (Rect.unit (s := S8x64x512) ![0, 0, 0] S8x64x512.size inb_S8x64x512_S8x64x512_0_0_0) (packPart acc) Finset.univ (View.stores_vmem h_S8x64x512 ((Memref.isWhole_whole _).storeExact_slice rfl _ packedbf16_S8x64x512_S8x64x512_0_0_0) (fun _ => rfl)) (.inl rfl))

/-- Send the device at distance `i + 1` half `h` of its rows. -/
def rsSend (h : Fin 2) (d : Dev nD) (i : Fin 7) : P F PUnit :=
  Prog.lift (.enqueueDma (partM (offSend h i d) (inb_send h i d)) (.remote (Dev.tc (devRs h d i)) (rsM h (opp i)) (.dma (xSem cc0_scratch7 h i))) (.dma (xSem cc0_scratch8 h (opp i)))
    (we_send h i d) (we_rs h (opp i)) ⟨⟨rfl, Or.inl rfl⟩, trivial⟩)

/-- Wait for a piece of another device's product. -/
def rsWait (h : Fin 2) (s : Fin 7) : P F PUnit :=
  Prog.lift (.waitDma2 (xSem cc0_scratch8 h s) (rsM h s) (rsM h s) (we_rs h s) (we_rs h s))

/-- Read slot `s` of half `h`. -/
def rsLoad (h : Fin 2) (s : Fin 7) : P F (Vec F S1x1x64x256 .bf16) :=
  Prog.lift (.load bufRs (slotR h s).toLoadRect (View.loadsAt_vmem h_S1x1x64x256))

/-- A slot's contents, widened. -/
def wide (v : Vec F S1x1x64x256 .bf16) : FVec F S64x256 .f32 :=
  extf .f32 (shapeCast S64x256 v shapeCasts_S1x1x64x256_S64x256) bitsLt_bf16_f32
/-- The device's own piece, widened. -/
def wide1 (v : Vec F S1x64x256 .bf16) : FVec F S64x256 .f32 :=
  extf .f32 (shapeCast S64x256 v shapeCasts_S1x64x256_S64x256) bitsLt_bf16_f32

/-- Eight pieces summed pairwise. -/
def tree (o s0 s1 s2 s3 s4 s5 s6 : FVec F S64x256 .f32) : FVec F S64x256 .f32 :=
  addf (addf (addf o s0) (addf s1 s2)) (addf (addf s3 s4) (addf s5 s6))

/-- The reduced rows as they are stored: rounded. -/
def packRed (v : FVec F S64x256 .f32) : FVec F S1x64x256 .bf16 :=
  shapeCast S1x64x256 (truncf .bf16 v bitsLt_bf16_f32) shapeCasts_S64x256_S1x64x256

/-- Reduce half `h` of the device's rows. -/
def reduce (h : Fin 2) (d : Dev nD) : P F (FVec F S64x256 .f32) := do
  let o ← Prog.lift (.load bufPart (Rect.unit (s := S8x64x512) (offOwn h d) S1x64x256.size (inb_own h d)).toLoadRect (View.loadsAt_vmem h_S1x64x256))
  let s0 ← rsLoad h 0
  let s1 ← rsLoad h 1
  let s2 ← rsLoad h 2
  let s3 ← rsLoad h 3
  let s4 ← rsLoad h 4
  let s5 ← rsLoad h 5
  let s6 ← rsLoad h 6
  let _ ← Prog.lift (.load bufRed (redR h).toLoadRect (View.loadsAt_vmem h_S1x64x256))
  Prog.lift (.store bufRed (redR h) (packRed (tree (wide1 o) (wide s0) (wide s1) (wide s2) (wide s3) (wide s4) (wide s5) (wide s6))) Finset.univ
    (View.stores_vmem h_S1x64x256 ((Memref.isWhole_whole _).storeExact_slice rfl _ (packed_red h)) (fun _ => rfl)) (.inl rfl))
  pure (tree (wide1 o) (wide s0) (wide s1) (wide s2) (wide s3) (wide s4) (wide s5) (wide s6))

/-- Send the device at distance `i + 1` half `h` of the reduced rows. -/
def agSend (h : Fin 2) (d : Dev nD) (i : Fin 7) : P F PUnit :=
  Prog.lift (.enqueueDma (redM h) (.remote (Dev.tc (devAg h d i)) (agM h (opp i)) (.dma (xSem cc0_scratch9 h i))) (.dma (xSem cc0_scratch10 h (opp i)))
    (we_red h) (we_ag h (opp i)) ⟨⟨rfl, Or.inl rfl⟩, trivial⟩)

/-- Put a half of the device's own reduced rows in the result. -/
def putOwn (h : Fin 2) (d : Dev nD) (v : FVec F S64x256 .f32) : P F PUnit := do
  let _ ← Prog.lift (.load bufOut (Rect.unit (s := S512x512) (offRes h d) S64x256.size (inb_res h d)).toLoadRect (View.loadsAt_vmem h_S64x256))
  Prog.lift (.store bufOut (Rect.unit (s := S512x512) (offRes h d) S64x256.size (inb_res h d)) v Finset.univ (View.stores_vmem_bits_univ h_S64x256 rfl) (.inl rfl))

/-- Wait for another device's reduced rows and put them in the result. -/
def gather (h : Fin 2) (d : Dev nD) (s : Fin 7) : P F PUnit := do
  Prog.lift (.waitDma2 (xSem cc0_scratch10 h s) (agM h s) (agM h s) (we_ag h s) (we_ag h s))
  let v ← Prog.lift (.load bufAg (slotR h s).toLoadRect (View.loadsAt_vmem h_S1x1x64x256))
  let _ ← Prog.lift (.load bufOut (Rect.unit (s := S512x512) (offGot h s d) S64x256.size (inb_got h s d)).toLoadRect (View.loadsAt_vmem h_S64x256))
  Prog.lift (.store bufOut (Rect.unit (s := S512x512) (offGot h s d) S64x256.size (inb_got h s d)) (wide v) Finset.univ (View.stores_vmem_bits_univ h_S64x256 rfl) (.inl rfl))

/-- Wait until a piece of the product has left. -/
def rsDone (h : Fin 2) (d : Dev nD) (i : Fin 7) : P F PUnit :=
  Prog.lift (.waitDma2 (xSem cc0_scratch7 h i) (rsM h (opp i)) (partM (offSend h i d) (inb_send h i d)) (we_rs h (opp i)) (we_send h i d))

/-- Wait until the reduced rows have left. -/
def agDone (h : Fin 2) (i : Fin 7) : P F PUnit :=
  Prog.lift (.waitDma2 (xSem cc0_scratch9 h i) (agM h (opp i)) (redM h) (we_ag h (opp i)) (we_red h))

/-- The reduction's two halves and the sends of the reduced rows: what a device does from its first
    wait for another device's product on, up to its own rows of the result. -/
def exchange (d : Dev nD) : P F PUnit := do
  loop (rsWait 0) sevens
  let v0 ← reduce 0 d
  loop (agSend 0 d) sevens
  loop (rsWait 1) sevens
  let v1 ← reduce 1 d
  loop (agSend 1 d) sevens
  putOwn 0 d v0
  putOwn 1 d v1

/-- The body, as loops. -/
def myBody : P F PUnit := do
  let d ← Prog.lift .deviceId
  loop fetch eights
  loop (sig1 d) sevens
  product
  semWaitWord barS 7#32
  loop (rsSend 0 d) sevens
  loop (rsSend 1 d) sevens
  exchange d
  loop (gather 0 d) sevens
  loop (gather 1 d) sevens
  loop (rsDone 0 d) sevens
  loop (rsDone 1 d) sevens
  loop (agDone 0) sevens
  loop (agDone 1) sevens

end Cert.KernelIdeal.Proof

end

end
-- ==== Proof.Cells.lean ====
module

public import proofs.«01_k».proof.Proof.Prog
public import Idealize.ShloMosaic.Lib.Pipeline.Launch
public import Idealize.ShloMosaic.Lib.Pipeline.Kit
public import Idealize.ShloMosaic.Lib.Pointwise.Index
public import Idealize.ShloMosaic.Lib.ShareLeaves
public import Idealize.ShloMosaic.Lib.Tactic

/-! # The protocol: cells, what they hand over, what a device owes

A device's cells are its barrier, one per input copy, and four arrays of transfers: the pieces of the
product it sends, those it receives, the reduced rows it sends, those it receives. Every cell has one
round. This module states what the buffers hold once written, what each cell hands to its owner, and the
order in which a device may wait. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resources -/

/-- The protocol's own resources: at most seven duties in a cell's round. -/
abbrev UB : Type := URounds (GSem nD τ sig) (Fin 7)
/-- The pipeline's resources and the protocol's. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UB (MT nD τ sig Unit (Elt F) ℕ UU ℕ) := embR

/-- No ghost variants. -/
abbrev 𝒱₀ : Variants := Variants.none

/-- What a program's run on device `c` ensures. -/
abbrev runs (c : Dev nD) {α : Type} (p : P F α) (Q : α → sProp 𝕄) : sProp 𝕄 :=
  wp frame (wpE (defs₀ (F := F)) 𝒱₀ (c : Thread nD τ) none) Set.univ p Q

/-- A window's elements on device `c`, at share `q`, holding `f`. -/
def pt {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

instance pt_storable {sp : Space} {s : Shape} {e : EltTy} (M : Memref sig .tc sp s e) (c : Dev nD) (q : PosShare TreeShare)
    (f : Buf (Elt F) (M.view.loc (c : Thread nD τ))) : BI.Storable (upEmb : UEmb _ 𝕄) (pt M c q f) := by unfold pt; infer_instance

/-! ## The cells -/

/-- The scoped cells of a device: the input copies' and the transfers'. -/
abbrev KI : Type := (Fin 2 × Fin 8) ⊕ (Fin 4 × Fin 2 × Fin 7)
/-- All its cells: the barrier's besides. -/
abbrev KK : Type := Unit ⊕ KI

/-- The barrier's cell. -/
abbrev kBar : KK := .inl ()
/-- The cell of the copy of block `t` of factor `b`. -/
abbrev kIn (b : Fin 2) (t : Fin 8) : KK := .inr (.inl (b, t))
/-- The transfers' cells: `0` and `1` the pieces sent and received, `2` and `3` the reduced rows sent and received. -/
abbrev kX (w : Fin 4) (h : Fin 2) (s : Fin 7) : KK := .inr (.inr (w, h, s))

/-- The four arrays of transfers' semaphores. -/
def xArr : Fin 4 → DmaSems sig S2x7 | 0 => cc0_scratch7 | 1 => cc0_scratch8 | 2 => cc0_scratch9 | 3 => cc0_scratch10

/-- The semaphore of a scoped cell. -/
def osem : KI → SemLoc sig
  | .inl (b, t) => .dma (inSem b t)
  | .inr (w, h, s) => .dma (xSem (xArr w) h s)
/-- The semaphore of a cell. -/
def csem : KK → SemLoc sig
  | .inl _ => .reg barS
  | .inr k => osem k

theorem osem_inj : Function.Injective osem := by
  have : ∀ a b, osem a = osem b → a = b := by decide +kernel
  exact fun a b => this a b
theorem csem_inj : Function.Injective csem := by
  rintro (⟨⟨⟩⟩ | a) (⟨⟨⟩⟩ | b) h
  · rfl
  · rcases b with ⟨_, _⟩ | ⟨_, _, _⟩ <;> cases h
  · rcases a with ⟨_, _⟩ | ⟨_, _, _⟩ <;> cases h
  · exact congrArg _ (osem_inj h)

/-- The cell a semaphore is of, if any. -/
def dec : SemLoc sig → Option KK := Function.partialInv csem
theorem dec_csem (k : KK) : dec (csem k) = some k := Function.partialInv_left csem_inj k

/-- Cell `k` of device `c`. -/
abbrev cell (c : Dev nD) (k : KK) : GSem nD τ sig := ((c : Thread nD τ), csem k)

theorem cell_inj : Function.Injective (fun p : Dev nD × KK => cell p.1 p.2) := by
  rintro ⟨c, k⟩ ⟨c', k'⟩ h
  obtain ⟨h1, h2⟩ := Prod.mk.inj h
  have hc : c = c' := congrArg Prod.fst h1
  have hk : k = k' := csem_inj h2
  rw [hc, hk]

/-- What a block's copy credits. -/
abbrev Nin : ℕ := (blkM 0 0).view.dmaCredit
/-- What a transfer credits. -/
abbrev Nx : ℕ := (rsM 0 0).view.dmaCredit

/-- The amount of one duty of a cell. -/
def amt : KK → ℕ
  | .inl _ => 1
  | .inr (.inl _) => Nin
  | .inr (.inr _) => Nx

theorem amt_pos (k : KK) : 0 < amt k := by
  rcases k with _ | _ | _
  · exact Nat.one_pos
  · exact View.dmaCredit_pos _ (by decide)
  · exact View.dmaCredit_pos _ (by decide)

/-! ## What the buffers hold -/

variable (m : (ℓ : Loc nD τ sig) → Buf (Elt F) ℓ)

/-- A factor on device `c`, in main memory. -/
def inX (b : Fin 2) (c : Dev nD) : Buf (Elt F) ((bufIn b).view.loc (c : Thread nD τ)) := m _

/-- A factor by column blocks. -/
def inF (x : S512x2048.Idx → Elt F .f32) : S8x512x256.Idx → Elt F .f32 := fun i =>
  x (ix2 (n0 := 512) (n1 := 2048) (i 1) ⟨256 * (i 0).val + (i 2).val, by
    have h0 : (i 0).val < 8 := (i 0).isLt
    have h2 : (i 2).val < 256 := (i 2).isLt
    omega⟩)

/-- A factor's copy. -/
def inW (b : Fin 2) (c : Dev nD) : Buf (Elt F) ((bufInV b).view.loc (c : Thread nD τ)) :=
  match b with
  | 0 => inF (inX m 0 c)
  | 1 => inF (inX m 1 c)

/-- Block `t` of the left factor, as read. -/
def blkA (c : Dev nD) (t : Fin 8) : Vec F S1x512x256 .f32 := bufDyV.view.readAt (Elt F) (blkR t).toLoadRect (inW m 0 c)
/-- Block `t` of the right factor, as read. -/
def blkB (c : Dev nD) (t : Fin 8) : Vec F S1x512x256 .f32 := bufWV.view.readAt (Elt F) (blkR t).toLoadRect (inW m 1 c)

/-- The product with one more block. -/
def accStep (c : Dev nD) (a : FVec F S512x512 .f32) (t : Fin 8) : FVec F S512x512 .f32 := addf a (mm (blkA m c t) (blkB m c t))
/-- The product of the device's blocks. -/
def accW (c : Dev nD) : FVec F S512x512 .f32 := [1, 2, 3, 4, 5, 6, 7].foldl (accStep m c) (mm (blkA m c 0) (blkB m c 0))

/-- The product, stored. -/
def partW (c : Dev nD) : S8x64x512.Idx → Elt F .bf16 := packPart (accW m c)

/-- The piece of another device's product that slot `s` of half `h` is for. -/
def rsV (c : Dev nD) (h : Fin 2) (s : Fin 7) : S64x256.Idx → Elt F .bf16 :=
  (partM (offSend h (opp s) (c + dist s)) (inb_send h (opp s) (c + dist s))).view.read (Elt F) (partW m (c + dist s))
/-- The pieces of the other devices' products, landed. -/
def rsW (c : Dev nD) : S2x7x64x256.Idx → Elt F .bf16 := fun i => rsV m c (i 0) (i 1) (ix2 (n0 := 64) (n1 := 256) (i 2) (i 3))

/-- The device's own piece of the product, as read. -/
def ownP (c : Dev nD) (h : Fin 2) : Vec F S1x64x256 .bf16 :=
  bufPart.view.readAt (Elt F) (Rect.unit (s := S8x64x512) (offOwn h c) S1x64x256.size (inb_own h c)).toLoadRect (partW m c)
/-- A landed piece, as read. -/
def gotP (c : Dev nD) (h : Fin 2) (s : Fin 7) : Vec F S1x1x64x256 .bf16 :=
  bufRs.view.readAt (Elt F) (slotR h s).toLoadRect (rsW m c)

/-- The device's reduced rows. -/
def redF (c : Dev nD) (h : Fin 2) : FVec F S64x256 .f32 :=
  tree (wide1 (ownP m c h)) (wide (gotP m c h 0)) (wide (gotP m c h 1)) (wide (gotP m c h 2)) (wide (gotP m c h 3))
    (wide (gotP m c h 4)) (wide (gotP m c h 5)) (wide (gotP m c h 6))

/-- The reduced rows, stored. -/
def redW (c : Dev nD) : S2x64x256.Idx → Elt F .bf16 := fun i =>
  packRed (redF m c (i 0)) (ix3 (n0 := 1) (n1 := 64) (n2 := 256) 0 (i 1) (i 2))

/-- The reduced rows of another device that slot `s` of half `h` is for. -/
def agV (c : Dev nD) (h : Fin 2) (s : Fin 7) : S64x256.Idx → Elt F .bf16 := (redM h).view.read (Elt F) (redW m (c + dist s))
/-- The other devices' reduced rows, landed. -/
def agW (c : Dev nD) : S2x7x64x256.Idx → Elt F .bf16 := fun i => agV m c (i 0) (i 1) (ix2 (n0 := 64) (n1 := 256) (i 2) (i 3))

/-- Other devices' reduced rows, as read. -/
def gotR (c : Dev nD) (h : Fin 2) (s : Fin 7) : Vec F S1x1x64x256 .bf16 :=
  bufAg.view.readAt (Elt F) (slotR h s).toLoadRect (agW m c)

/-- The place of a ring distance. -/
def place (d : Dev nD) : Fin 7 := ⟨d.val - 1, by have h : d.val < 8 := d.isLt; omega⟩
theorem place_dist : ∀ (c : Dev nD) (s : Fin 7), place (c + dist s - c) = s := by decide +kernel
theorem dist_ne : ∀ (c : Dev nD) (s : Fin 7), c + dist s ≠ c := by decide +kernel

/-- Piece `(h, e)` of the result on device `c`: its own rows, or those of device `e` as they came. -/
def outP (c e : Dev nD) (h : Fin 2) : FVec F S64x256 .f32 :=
  if e = c then redF m c h else wide (gotR m c h (place (e - c)))

/-- The result. -/
def outW (c : Dev nD) : S512x512.Idx → Elt F .f32 := fun i =>
  outP m c ⟨(i 0).val / 64, by have h : (i 0).val < 512 := (i 0).isLt; show _ < 8; omega⟩
    ⟨(i 1).val / 256, by have h : (i 1).val < 512 := (i 1).isLt; omega⟩
    (ix2 (n0 := 64) (n1 := 256) ⟨(i 0).val % 64, Nat.mod_lt _ (by decide)⟩ ⟨(i 1).val % 256, Nat.mod_lt _ (by decide)⟩)

/-! ## What a cell hands over -/

/-- The share of the reduced rows a send takes; the last eighth stays with the device. -/
abbrev redQ (i : Fin 8) : PosShare TreeShare := leaf 3 fullShare i

/-- A slot of a landing buffer, holding anything. -/
def free {sp : Space} {s : Shape} {e : EltTy} (M : Memref sig .tc sp s e) (c : Dev nD) : sProp 𝕄 :=
  iprop(∃ f : Buf (Elt F) (M.view.loc (c : Thread nD τ)), pt M c fullShare f)

instance free_storable {sp : Space} {s : Shape} {e : EltTy} (M : Memref sig .tc sp s e) (c : Dev nD) :
    BI.Storable (upEmb : UEmb _ 𝕄) (free (F := F) M c) := by unfold free; infer_instance

/-- The four slots a device opens to the one that sends into slot `s`. -/
def slots (c : Dev nD) (s : Fin 7) : sProp 𝕄 :=
  iprop((free (rsM 0 s) c ∗ free (rsM 1 s) c) ∗ free (agM 0 s) c ∗ free (agM 1 s) c)

instance slots_storable (c : Dev nD) (s : Fin 7) : BI.Storable (upEmb : UEmb _ 𝕄) (slots (F := F) c s) := by unfold slots; infer_instance

/-- What duty `d` of cell `k` hands device `c`. -/
def pay (c : Dev nD) : KK → Fin 7 → sProp 𝕄
  | .inl _, i => slots (c + dist i) (opp i)
  | .inr (.inl (b, t)), _ => iprop(pt (blkM b t) c fullShare (inW m b c) ∗ pt (colM b t) c fullShare (inX m b c))
  | .inr (.inr (0, h, i)), _ => pt (partM (offSend h i c) (inb_send h i c)) c fullShare (partW m c)
  | .inr (.inr (1, h, s)), _ => pt (rsM h s) c fullShare (rsW m c)
  | .inr (.inr (2, h, i)), _ => pt (redM h) c (redQ (dist i)) (redW m c)
  | .inr (.inr (3, h, s)), _ => pt (agM h s) c fullShare (agW m c)

instance pay_storable (c : Dev nD) (k : KK) (d : Fin 7) : BI.Storable (upEmb : UEmb _ 𝕄) (pay m c k d) := by
  unfold pay; split <;> infer_instance

/-- The duties of a cell's round. -/
def duties : KK → Finset (Fin 7)
  | .inl _ => Finset.univ
  | .inr _ => {0}

/-- The schedule: one round. -/
def Rd : Rounds.Schedule (GSem nD τ sig) (Fin 7) 𝕄 where
  duties g r := if r = 0 ∧ g.1.2 = .tc then (dec g.2).elim ∅ duties else ∅
  unitless _ := False
  amount g _ _ := (dec g.2).elim 1 amt
  payload g _ d := (dec g.2).elim iprop(emp) (fun k => pay m g.1.1 k d)
  amount_pos g _ _ _ := by
    cases dec g.2 with
    | none => exact Nat.one_pos
    | some k => exact amt_pos k

instance Rd_payload_storable (g : GSem nD τ sig) (r : ℕ) (d : Fin 7) : BI.Storable (upEmb : UEmb _ 𝕄) ((Rd m).payload g r d) := by
  show BI.Storable upEmb ((dec g.2).elim iprop(emp) (fun k => pay m g.1.1 k d))
  cases dec g.2 with
  | none => show BI.Storable upEmb iprop(emp); infer_instance
  | some k => exact pay_storable m g.1.1 k d

theorem Rd_duties (c : Dev nD) (k : KK) : (Rd m).duties (cell c k) 0 = duties k := by
  show (if (0 = 0 ∧ (Proc.tc : Proc τ) = .tc) then (dec (csem k)).elim ∅ duties else ∅) = _
  rw [if_pos ⟨rfl, rfl⟩, dec_csem]; rfl
theorem Rd_later (g : GSem nD τ sig) : ∀ r, 0 + 1 ≤ r → (Rd m).duties g r = ∅ := fun r hr => by
  show (if _ then _ else _) = _
  rw [if_neg fun h => by omega]
theorem Rd_amount (c : Dev nD) (k : KK) (d : Fin 7) : (Rd m).amount (cell c k) 0 d = amt k := by
  show (dec (csem k)).elim 1 amt = _
  rw [dec_csem]; rfl
theorem Rd_payload (c : Dev nD) (k : KK) (d : Fin 7) : (Rd m).payload (cell c k) 0 d = pay m c k d := by
  show (dec (csem k)).elim iprop(emp) (fun k => pay m c k d) = _
  rw [dec_csem]; rfl
theorem Rd_expect_bar (c : Dev nD) : (Rd m).expect (cell c kBar) 0 = 7 := by
  unfold Schedule.expect Schedule.amountOf
  rw [Rd_duties, Finset.sum_congr rfl fun d _ => Rd_amount m c kBar d]; rfl
theorem Rd_expect_own (c : Dev nD) (k : KI) : (Rd m).expect (cell c (.inr k)) 0 = amt (.inr k) := by
  unfold Schedule.expect Schedule.amountOf
  rw [Rd_duties]; show Finset.sum {0} _ = _
  rw [Finset.sum_singleton, Rd_amount]
theorem Rd_rest_bar (c : Dev nD) :
    bigSep ((Rd m).duties (cell c kBar) 0 \ ∅) (fun d => (Rd m).payload (cell c kBar) 0 d) = bigSepL sevens fun i => slots (F := F) (c + dist i) (opp i) := by
  rw [Finset.sdiff_empty, Rd_duties, ← bigSep_univ_eq_bigSepL sevens (by decide) (by decide)]
  exact bigSep_congr fun d _ => Rd_payload m c kBar d
theorem Rd_rest_own (c : Dev nD) (k : KI) :
    bigSep ((Rd m).duties (cell c (.inr k)) 0 \ ∅) (fun d => (Rd m).payload (cell c (.inr k)) 0 d) = pay m c (.inr k) 0 := by
  rw [Finset.sdiff_empty, Rd_duties]; show bigSep {0} _ = _
  rw [bigSep_singleton, Rd_payload]

/-! ## What a device owes, and the order of its waits -/

/-- The tally of a list of cells and amounts: the first is paid first. -/
def owedOf (l : List (GSem nD τ sig × ℕ)) : CellTallies nD τ sig Unit := l.foldr (fun x O => O + tallyAt x.1 () x.2) 0

/-- Device `c`'s debts: the barriers. -/
def dBar (c : Dev nD) (i : Fin 7) : GSem nD τ sig × ℕ := (cell (c + dist i) kBar, 1)
/-- Device `c`'s debts: the landings, of the product's pieces (`1`) and of the reduced rows (`3`). -/
def dX (w : Fin 4) (h : Fin 2) (c : Dev nD) (i : Fin 7) : GSem nD τ sig × ℕ := (cell (c + dist i) (kX w h (opp i)), Nx)

/-- What device `c` owes from its sends of reduced rows on. -/
def owAg (c : Dev nD) : List (GSem nD τ sig × ℕ) := sevens.map (dX 3 0 c) ++ (sevens.map (dX 3 1 c) ++ [])
/-- What it owes from its sends of the product's pieces on. -/
def owRs (c : Dev nD) : List (GSem nD τ sig × ℕ) := sevens.map (dX 1 0 c) ++ (sevens.map (dX 1 1 c) ++ owAg c)
/-- What it owes at the start. -/
def owAll (c : Dev nD) : List (GSem nD τ sig × ℕ) := sevens.map (dBar c) ++ owRs c

/-- The levels' indices. -/
def L (g : GSem nD τ sig) : Finset Unit := if g.1.2 = .tc then {()} else ∅
/-- A cell's level. -/
def lvK : Option KK → ℕ
  | some (.inl _) => 1
  | some (.inr (.inr (1, _, _))) => 2
  | some (.inr (.inr (3, _, _))) => 3
  | _ => 0
/-- The levels: the barrier, then the product's pieces, then the reduced rows; the device's own copies and sends are below. -/
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KK) : lv (cell c k) () = lvK (some k) := by
  show lvK (dec (csem k)) = _; rw [dec_csem]

/-- A tally that is positive somewhere is so at a cell of its list. -/
theorem owedOf_pos {g : GSem nD τ sig} {u : Unit} : ∀ {l : List (GSem nD τ sig × ℕ)}, 0 < owedOf l g u → ∃ x ∈ l, x.1 = g
  | [], h => absurd h (Nat.lt_irrefl 0)
  | x :: l, h => by
    change 0 < (owedOf l + tallyAt x.1 () x.2) g u at h
    rw [Pi.add_apply, Finsupp.add_apply, tallyAt_apply] at h
    by_cases hx : g = x.1 ∧ u = ()
    · exact ⟨x, List.mem_cons_self .., hx.1.symm⟩
    · rw [if_neg hx, add_zero] at h
      obtain ⟨y, hy, e⟩ := owedOf_pos h
      exact ⟨y, List.mem_cons_of_mem _ hy, e⟩

/-- Every debt of the list is to a device's cell above level `b`. -/
def Above (b : ℕ) (l : List (GSem nD τ sig × ℕ)) : Prop := ∀ x ∈ l, ∃ (d : Dev nD) (k : KK), x.1 = cell d k ∧ b < lvK (some k)

theorem Above.nil (b : ℕ) : Above b [] := fun _ h => absurd h (List.not_mem_nil)
theorem Above.append {b : ℕ} {l l' : List (GSem nD τ sig × ℕ)} (h : Above b l) (h' : Above b l') : Above b (l ++ l') := fun x hx =>
  (List.mem_append.mp hx).elim (h x) (h' x)
theorem Above.mono {b b' : ℕ} (hb : b ≤ b') {l : List (GSem nD τ sig × ℕ)} (h : Above b' l) : Above b l := fun x hx =>
  let ⟨d, k, e, hk⟩ := h x hx; ⟨d, k, e, lt_of_le_of_lt hb hk⟩
theorem above_bar (c : Dev nD) (l : List (Fin 7)) : Above 0 (l.map (dBar c)) := fun x hx => by
  obtain ⟨i, _, rfl⟩ := List.mem_map.mp hx; exact ⟨c + dist i, kBar, rfl, Nat.one_pos⟩
theorem above_rs (h : Fin 2) (c : Dev nD) (l : List (Fin 7)) : Above 1 (l.map (dX 1 h c)) := fun x hx => by
  obtain ⟨i, _, rfl⟩ := List.mem_map.mp hx; exact ⟨c + dist i, kX 1 h (opp i), rfl, show 1 < 2 by decide⟩
theorem above_ag (h : Fin 2) (c : Dev nD) (l : List (Fin 7)) : Above 2 (l.map (dX 3 h c)) := fun x hx => by
  obtain ⟨i, _, rfl⟩ := List.mem_map.mp hx; exact ⟨c + dist i, kX 3 h (opp i), rfl, show 2 < 3 by decide⟩
theorem above_owAg (c : Dev nD) : Above 2 (owAg c) := (above_ag 0 c _).append ((above_ag 1 c _).append (.nil _))
theorem above_owRs (c : Dev nD) : Above 1 (owRs c) :=
  (above_rs 0 c _).append ((above_rs 1 c _).append ((above_owAg c).mono (by decide)))
theorem above_owAll (c : Dev nD) : Above 0 (owAll c) := (above_bar c _).append ((above_owRs c).mono (by decide))

/-- A wait on a semaphore of level at most `b`, owing only above it. -/
theorem mayWait_of (c : Dev nD) (sm : SemLoc sig) (b : ℕ) (hb : lvK (dec sm) ≤ b) (l : List (GSem nD τ sig × ℕ)) (hl : Above b l) :
    (levAts L lv : sProp 𝕄) ⊢ MayWait (c : Thread nD τ) sm () (owedOf l) :=
  MayOwe.of_cut (L := L) (lev := lv) b (fun p hp => by rw [Finset.mem_singleton.mp hp, L_tc]; exact Finset.mem_singleton_self _)
    (fun g u hg => by
      obtain ⟨x, hx, rfl⟩ := owedOf_pos hg
      obtain ⟨d, k, e, _⟩ := hl x hx
      rw [e]; exact Finset.mem_singleton_self _)
    (fun p hp => by rw [Finset.mem_singleton.mp hp]; exact hb)
    (fun g u hg => by
      obtain ⟨x, hx, rfl⟩ := owedOf_pos hg
      obtain ⟨d, k, e, h⟩ := hl x hx
      rw [e]; exact h.trans_eq (lv_cell d k).symm)

/-- Device `c` owes the list, whatever it waited for so far. -/
def ow (c : Dev nD) (l : List (GSem nD τ sig × ℕ)) : sProp 𝕄 := iprop(∃ W : Waits sig Unit, owes (c : Thread nD τ) (owedOf l) W)

end Cert.KernelIdeal.Proof

end

end
-- ==== Proof.Contents.lean ====
module

public import proofs.«01_k».proof.Proof.Cells

/-! # What the copies and stores leave behind

Each buffer's contents, as stated in the protocol, read through the window a copy or a store writes are
what that copy or store writes. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Contents that a window reads alike are the same there. -/
theorem pt_congr {sp : Space} {s : Shape} {e : EltTy} (M : Memref sig .tc sp s e) (c : Dev nD) (q : PosShare TreeShare)
    (f g : Buf (Elt F) (M.view.loc (c : Thread nD τ))) (h : M.view.read (Elt F) f = M.view.read (Elt F) g) :
    (pt M c q f : sProp 𝕄) = pt M c q g := by
  unfold pt
  refine pointsTo_congr fun i hi => ?_
  obtain ⟨x, _, rfl⟩ := Finset.mem_map.mp hi
  exact (cast_inj _).mp (congrFun h x)

/-- A window written whole holds any contents that read as what was written. -/
theorem pt_write {sp : Space} {s : Shape} {e : EltTy} (M : Memref sig .tc sp s e) (c : Dev nD) (q : PosShare TreeShare)
    (f g : Buf (Elt F) (M.view.loc (c : Thread nD τ))) (w : s.Idx → Elt F e) (h : M.view.read (Elt F) g = w) :
    (pt M c q (M.view.write (Elt F) f w Finset.univ) : sProp 𝕄) = pt M c q g :=
  pt_congr M c q _ _ (by rw [View.read_write_univ, h])

/-! ## Squeezed indices -/

/-- An index of a block, with the unit axis a block's window has. -/
theorem reshape3 {n p : Nat} (h : (⟨2, ![n, p]⟩ : Shape).numel = (⟨3, ![1, n, p]⟩ : Shape).numel) (y : (⟨2, ![n, p]⟩ : Shape).Idx) :
    Shape.reshapeEquiv h y = ix3 (n0 := 1) (n1 := n) (n2 := p) 0 (y 0) (y 1) :=
  Shape.reshapeEquiv_eq_of_rowMajor h (by
    rw [Shape.rowMajor_val_three, Shape.rowMajor_val_two]
    show (0 * _ + (y 0).val) * p + (y 1).val = _
    rw [Nat.zero_mul, Nat.zero_add]; rfl)

/-- An index of a slot, with the two unit axes a slot's window has. -/
theorem reshape4 {n p : Nat} (h : (⟨2, ![n, p]⟩ : Shape).numel = (⟨4, ![1, 1, n, p]⟩ : Shape).numel) (y : (⟨2, ![n, p]⟩ : Shape).Idx) :
    Shape.reshapeEquiv h y = ix4 (n0 := 1) (n1 := 1) (n2 := n) (n3 := p) 0 0 (y 0) (y 1) :=
  Shape.reshapeEquiv_eq_of_rowMajor h (by
    rw [Shape.rowMajor_val_four, Shape.rowMajor_val_two]
    show ((0 * _ + 0) * _ + (y 0).val) * p + (y 1).val = _
    rw [Nat.zero_mul, Nat.zero_add, Nat.zero_mul, Nat.zero_add]; rfl)

/-! ## The buffers -/

variable (m : (ℓ : Loc nD τ sig) → Buf (Elt F) ℓ)

/-- A block's copy reads as the column block it is copied from. -/
theorem read_in (b : Fin 2) (c : Dev nD) (t : Fin 8) :
    (blkM b t).view.read (Elt F) (inW m b c) = (colM b t).view.read (Elt F) (inX m b c) := by
  have key : ∀ x : S512x2048.Idx → Elt F .f32, ∀ y : S512x256.Idx,
      inF x ((blkR t).emb (Shape.reshapeEquiv (squeezes_S1x512x256_S512x256).numel_eq y))
        = x ((Rect.unit (s := S512x2048) ![0, 256 * t.val] S512x256.size (inb_col t)).emb y) := fun x y => by
    rw [reshape3]
    refine congrArg x (funext fun a => ?_)
    match a with
    | ⟨0, _⟩ => exact Fin.ext rfl
    | ⟨1, _⟩ =>
      refine Fin.ext ?_
      show 256 * (t.val + 1 * 0) + (0 + 1 * (y 1).val) = 256 * t.val + 1 * (y 1).val
      omega
  funext y
  match b with
  | 0 => exact key _ y
  | 1 => exact key _ y

/-- A slot for a piece of a product reads as that piece. -/
theorem read_rs (c : Dev nD) (h : Fin 2) (s : Fin 7) : (rsM h s).view.read (Elt F) (rsW m c) = rsV m c h s := by
  funext y
  show rsW m c ((slotR h s).emb (Shape.reshapeEquiv (squeezes_S1x1x64x256_S64x256).numel_eq y)) = _
  rw [reshape4]
  show rsV m c ⟨h.val + 1 * 0, _⟩ ⟨s.val + 1 * 0, _⟩ (ix2 (n0 := 64) (n1 := 256) ⟨0 + 1 * (y 0).val, _⟩ ⟨0 + 1 * (y 1).val, _⟩) = _
  simp only [Nat.mul_zero, Nat.add_zero, Nat.zero_add, Nat.one_mul, Fin.eta]
  exact congrArg _ (ix2_eta y)

/-- A slot for reduced rows reads as those rows. -/
theorem read_ag (c : Dev nD) (h : Fin 2) (s : Fin 7) : (agM h s).view.read (Elt F) (agW m c) = agV m c h s := by
  funext y
  show agW m c ((slotR h s).emb (Shape.reshapeEquiv (squeezes_S1x1x64x256_S64x256).numel_eq y)) = _
  rw [reshape4]
  show agV m c ⟨h.val + 1 * 0, _⟩ ⟨s.val + 1 * 0, _⟩ (ix2 (n0 := 64) (n1 := 256) ⟨0 + 1 * (y 0).val, _⟩ ⟨0 + 1 * (y 1).val, _⟩) = _
  simp only [Nat.mul_zero, Nat.add_zero, Nat.zero_add, Nat.one_mul, Fin.eta]
  exact congrArg _ (ix2_eta y)

theorem back : ∀ (c : Dev nD) (i : Fin 7), c + dist i + dist (opp i) = c := by decide +kernel
theorem opp_opp : ∀ i : Fin 7, opp (opp i) = i := by decide

/-- The piece that device `c` sends at distance `i + 1` is the one the slot is for. -/
theorem rsV_sent (c : Dev nD) (h : Fin 2) (i : Fin 7) :
    rsV m (c + dist i) h (opp i) = (partM (offSend h i c) (inb_send h i c)).view.read (Elt F) (partW m c) := by
  have : ∀ e j, e = c → j = i →
      (partM (offSend h j e) (inb_send h j e)).view.read (Elt F) (partW m e) = (partM (offSend h i c) (inb_send h i c)).view.read (Elt F) (partW m c) := by
    rintro e j rfl rfl; rfl
  exact this _ _ (back c i) (opp_opp i)

/-- The rows that device `c` sends at distance `i + 1` are those the slot is for. -/
theorem agV_sent (c : Dev nD) (h : Fin 2) (i : Fin 7) : agV m (c + dist i) h (opp i) = (redM h).view.read (Elt F) (redW m c) := by
  unfold agV; rw [back]

/-- Half `h` of the reduced rows' buffer reads as the rows stored. -/
theorem read_red (c : Dev nD) (h : Fin 2) : (bufRed.access (redR h)).read (Elt F) (redW m c) = packRed (redF m c h) := by
  funext y
  show packRed (redF m c ⟨h.val + 1 * (y 0).val, _⟩) (ix3 (n0 := 1) (n1 := 64) (n2 := 256) 0 ⟨0 + 1 * (y 1).val, _⟩ ⟨0 + 1 * (y 2).val, _⟩) = _
  have h0 : (y 0).val = 0 := by have h : (y 0).val < 1 := (y 0).isLt; omega
  simp only [h0, Nat.mul_zero, Nat.add_zero, Nat.zero_add, Nat.one_mul, Fin.eta]
  refine congrArg _ (funext fun a => ?_)
  match a with
  | ⟨0, _⟩ => exact Fin.ext h0.symm
  | ⟨1, _⟩ => rfl
  | ⟨2, _⟩ => rfl

/-- The result at row `64 e + y 0`, column `256 h + y 1`. -/
theorem outW_at (c e : Dev nD) (h : Fin 2) (y : S64x256.Idx) (i : S512x512.Idx) (h0 : (i 0).val = 64 * e.val + (y 0).val)
    (h1 : (i 1).val = 256 * h.val + (y 1).val) : outW m c i = outP m c e h y := by
  have b0 : (y 0).val < 64 := (y 0).isLt
  have b1 : (y 1).val < 256 := (y 1).isLt
  have key : ∀ (e' : Dev nD) (h' : Fin 2) (y' : S64x256.Idx), e' = e → h' = h → y' = y → outP m c e' h' y' = outP m c e h y := by
    rintro _ _ _ rfl rfl rfl; rfl
  refine key _ _ _ (Fin.ext ?_) (Fin.ext ?_) (funext fun a => ?_)
  · show (i 0).val / 64 = e.val; omega
  · show (i 1).val / 256 = h.val; omega
  · match a with
    | ⟨0, _⟩ => exact Fin.ext (show (i 0).val % 64 = (y 0).val by omega)
    | ⟨1, _⟩ => exact Fin.ext (show (i 1).val % 256 = (y 1).val by omega)

/-- A piece of the result reads as stated, at any offsets equal to the piece's. -/
theorem read_out (c e : Dev nD) (h : Fin 2) (off : Fin 2 → Nat) (hoff : off = ![64 * e.val, 256 * h.val])
    (inb : ∀ a, off a + S64x256.size a ≤ S512x512.size a) :
    (bufOut.access (Rect.unit (s := S512x512) off S64x256.size inb)).read (Elt F) (outW m c) = outP m c e h := by
  subst hoff
  funext y
  refine outW_at m c e h y _ ?_ ?_
  · show 64 * e.val + 1 * (y 0).val = _; omega
  · show 256 * h.val + 1 * (y 1).val = _; omega

theorem outP_own (c : Dev nD) (h : Fin 2) : outP m c c h = redF m c h := if_pos rfl
theorem outP_got (c : Dev nD) (h : Fin 2) (s : Fin 7) : outP m c (c + dist s) h = wide (gotR m c h s) := by
  unfold outP; rw [if_neg (dist_ne c s), place_dist]

end Cert.KernelIdeal.Proof

end

end
-- ==== Proof.Split.lean ====
module

public import proofs.«01_k».proof.Proof.Contents

/-! # Buffers as their pieces

A whole buffer is the separate conjunction of the windows that the program copies, sends, loads and
stores. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

/-! ## Listed families -/

theorem sep_swap_le (A B C D : sProp 𝕄) : iprop((A ∗ B) ∗ C ∗ D) ⊢ iprop((A ∗ C) ∗ B ∗ D) := by
  iintro ⟨⟨HA, HB⟩, HC, HD⟩
  isplitl [HA HC]
  · isplitl [HA]; · iexact HA
    iexact HC
  · isplitl [HB]; · iexact HB
    iexact HD
/-- The middle two of four, exchanged. -/
theorem sep_swap (A B C D : sProp 𝕄) : iprop((A ∗ B) ∗ C ∗ D) = iprop((A ∗ C) ∗ B ∗ D) :=
  BI.Entails.antisymm (sep_swap_le A B C D) (sep_swap_le A C B D)

/-- Two listed families side by side. -/
theorem bigSepL_sep {I : Type} (Φ Ψ : I → sProp 𝕄) : ∀ l : List I,
    bigSepL l (fun i => iprop(Φ i ∗ Ψ i)) = iprop(bigSepL l Φ ∗ bigSepL l Ψ)
  | [] => (equiv_iff.mp sep_emp).symm
  | i :: l => by
    rw [bigSepL_cons, bigSepL_cons, bigSepL_cons, bigSepL_sep Φ Ψ l]
    show BIBase.sep (BIBase.sep (Φ i) (Ψ i)) (BIBase.sep (bigSepL l Φ) (bigSepL l Ψ)) = BIBase.sep (BIBase.sep (Φ i) (bigSepL l Φ)) (BIBase.sep (Ψ i) (bigSepL l Ψ))
    exact sep_swap _ _ _ _

theorem bigSepL_congr {I : Type} {Φ Ψ : I → sProp 𝕄} (h : ∀ i, Φ i = Ψ i) (l : List I) : bigSepL l Φ = bigSepL l Ψ := by
  rw [show Φ = Ψ from funext h]

theorem sub_shift : ∀ c d : Dev nD, c + d - c = d := by decide +kernel
theorem shift_sub : ∀ c d : Dev nD, c + (d - c) = d := by decide +kernel
/-- The devices, from `c` on. -/
def shift (c : Dev nD) : Dev nD ≃ Dev nD := ⟨fun d => c + d, fun d => d - c, sub_shift c, shift_sub c⟩

/-- A family over the devices, told by ring distance from `c`. -/
theorem fam_dev (Φ : Dev nD → sProp 𝕄) (c : Dev nD) :
    bigSep Finset.univ Φ = iprop(Φ c ∗ bigSepL sevens fun i => Φ (c + dist i)) := by
  rw [bigSep_univ_equiv (shift c) Φ, bigSep_univ_eq_bigSepL (I := Dev nD) [0, 1, 2, 3, 4, 5, 6, 7] (by decide) (by decide), bigSepL_cons]
  show BIBase.sep (Φ (c + 0)) _ = _
  rw [show c + 0 = c from Fin.add_zero c]; rfl

theorem fam_seven (Φ : Fin 7 → sProp 𝕄) : bigSep Finset.univ Φ = bigSepL sevens Φ := bigSep_univ_eq_bigSepL sevens (by decide) (by decide) Φ
theorem fam_eight (Φ : Fin 8 → sProp 𝕄) : bigSep Finset.univ Φ = bigSepL eights Φ := bigSep_univ_eq_bigSepL eights (by decide) (by decide) Φ
theorem fam_two (Φ : Fin 2 → sProp 𝕄) : bigSep Finset.univ Φ = iprop(Φ 0 ∗ Φ 1) := bigSep_univ_eq_bigSepL [0, 1] (by decide) (by decide) Φ

/-- A family over halves and places. -/
theorem fam_slots (Φ : Fin 2 × Fin 7 → sProp 𝕄) :
    bigSep Finset.univ Φ = iprop((bigSepL sevens fun i => Φ (0, i)) ∗ bigSepL sevens fun i => Φ (1, i)) := by
  rw [bigSep_univ_prod, fam_two, fam_seven, fam_seven]
/-- A family over factors and blocks. -/
theorem fam_in (Φ : Fin 2 × Fin 8 → sProp 𝕄) :
    bigSep Finset.univ Φ = bigSepL eights fun t => iprop(Φ (0, t) ∗ Φ (1, t)) := by
  rw [bigSep_univ_prod, fam_two, fam_eight, fam_eight, bigSepL_sep]

/-! ## Pieces -/

/-- A buffer is its pieces, each the elements with the piece's key. -/
theorem split_key {ℓ : Loc nD τ sig} {I : Type} [Fintype I] (S : I → Finset (Idx ℓ)) (key : Idx ℓ → I)
    (h : ∀ k x, x ∈ S k ↔ key x = k) (q : PosShare TreeShare) (f : Buf (Elt F) ℓ) :
    (ℓ ↦{q} f : sProp 𝕄) = bigSep Finset.univ fun k => ℓ ↦[S k]{q} f := by
  classical
  rw [← pointsTo_biUnion Finset.univ S fun k _ k' _ hne => Finset.disjoint_left.mpr fun x hx hx' =>
    hne (((h k x).mp hx).symm.trans ((h k' x).mp hx'))]
  congr 1
  ext x
  simp only [Finset.mem_univ, Finset.mem_biUnion, true_and, true_iff]
  exact ⟨key x, (h _ x).mpr rfl⟩

/-- The elements of a rectangle of a whole buffer. -/
theorem set_rect (b : Ref sig .tc) (r : Rect b.ty.shape) : ((View.whole b).slice r).set = r.set := View.set_slice_whole b r

/-- A factor in main memory, by column blocks. -/
theorem split_col (b : Fin 2) (c : Dev nD) (f : Buf (Elt F) ((bufIn b).view.loc (c : Thread nD τ))) :
    ((bufIn b).view.loc (c : Thread nD τ) ↦{fullShare} f : sProp 𝕄) = bigSepL eights fun t => pt (colM b t) c fullShare f := by
  have key : ∀ (x : S512x2048.Idx) (t : Fin 8),
      x ∈ (Rect.unit (s := S512x2048) ![0, 256 * t.val] S512x256.size (inb_col t)).set ↔
        (⟨(x 1).val / 256, by have h : (x 1).val < 2048 := (x 1).isLt; omega⟩ : Fin 8) = t := fun x t => by
    have h0 : (x 0).val < 512 := (x 0).isLt
    rw [Rect.mem_set_unit]
    constructor
    · intro h
      have h1 : 256 * t.val ≤ (x 1).val ∧ (x 1).val < 256 * t.val + 256 := h 1
      exact Fin.ext (show (x 1).val / 256 = t.val by omega)
    · rintro rfl a
      match a with
      | ⟨0, _⟩ => exact ⟨Nat.zero_le _, show (x 0).val < 0 + 512 by omega⟩
      | ⟨1, _⟩ => show 256 * ((x 1).val / 256) ≤ (x 1).val ∧ (x 1).val < 256 * ((x 1).val / 256) + 256; omega
  rw [← fam_eight]
  match b, f with
  | 0, f => exact split_key (ℓ := bufDy.view.loc (c : Thread nD τ)) (fun t : Fin 8 => (colM 0 t).view.set) _ (fun k x => (Finset.ext_iff.mp (set_rect _ _) x).trans (key x k)) fullShare f
  | 1, f => exact split_key (ℓ := bufW.view.loc (c : Thread nD τ)) (fun t : Fin 8 => (colM 1 t).view.set) _ (fun k x => (Finset.ext_iff.mp (set_rect _ _) x).trans (key x k)) fullShare f

/-- A factor's copy, by blocks. -/
theorem split_blk (b : Fin 2) (c : Dev nD) (f : Buf (Elt F) ((bufInV b).view.loc (c : Thread nD τ))) :
    ((bufInV b).view.loc (c : Thread nD τ) ↦{fullShare} f : sProp 𝕄) = bigSepL eights fun t => pt (blkM b t) c fullShare f := by
  have key : ∀ (x : S8x512x256.Idx) (t : Fin 8), x ∈ (blkR t).set ↔ x 0 = t := fun x t => by
    rw [Rect.mem_set_unit]
    constructor
    · intro h
      have h1 : t.val ≤ (x 0).val ∧ (x 0).val < t.val + 1 := h 0
      exact Fin.ext (show (x 0).val = t.val by omega)
    · rintro rfl a
      match a with
      | ⟨0, _⟩ => show (x 0).val ≤ (x 0).val ∧ (x 0).val < (x 0).val + 1; omega
      | ⟨1, _⟩ => exact ⟨Nat.zero_le _, show (x 1).val < 0 + 512 by have h : (x 1).val < 512 := (x 1).isLt; omega⟩
      | ⟨2, _⟩ => exact ⟨Nat.zero_le _, show (x 2).val < 0 + 256 by have h : (x 2).val < 256 := (x 2).isLt; omega⟩
  rw [← fam_eight]
  match b, f with
  | 0, f =>
    exact split_key (ℓ := bufDyV.view.loc (c : Thread nD τ)) (fun t : Fin 8 => (blkM 0 t).view.set) _
      (fun k x => (Finset.ext_iff.mp ((View.set_reshape _ _).trans (set_rect _ _)) x).trans (key x k)) fullShare f
  | 1, f =>
    exact split_key (ℓ := bufWV.view.loc (c : Thread nD τ)) (fun t : Fin 8 => (blkM 1 t).view.set) _
      (fun k x => (Finset.ext_iff.mp ((View.set_reshape _ _).trans (set_rect _ _)) x).trans (key x k)) fullShare f

/-- A piece of the product lies within it. -/
theorem inb_piece : ∀ (h : Fin 2) (e : Dev nD) a, (![e.val, 0, 256 * h.val] : Fin 3 → Nat) a + S1x64x256.size a ≤ S8x64x512.size a := by decide +kernel
/-- A piece of the result lies within it. -/
theorem inb_outPc : ∀ (h : Fin 2) (e : Dev nD) a, (![64 * e.val, 256 * h.val] : Fin 2 → Nat) a + S64x256.size a ≤ S512x512.size a := by decide +kernel

/-- A piece of the product at equal offsets. -/
theorem part_congr (c : Dev nD) {off off' : Fin 3 → Nat} (h : off' = off) (inb : ∀ a, off a + S1x64x256.size a ≤ S8x64x512.size a)
    (inb' : ∀ a, off' a + S1x64x256.size a ≤ S8x64x512.size a) (f : S8x64x512.Idx → Elt F .bf16) :
    (pt (partM off inb) c fullShare f : sProp 𝕄) = pt (partM off' inb') c fullShare f := by subst h; rfl

/-- The pieces of the product, all of them. -/
theorem split_pieces (c : Dev nD) (f : S8x64x512.Idx → Elt F .bf16) :
    (bufPart.view.loc (c : Thread nD τ) ↦{fullShare} f : sProp 𝕄)
      = bigSep Finset.univ fun k : Fin 2 × Dev nD => pt (partM ![k.2.val, 0, 256 * k.1.val] (inb_piece k.1 k.2)) c fullShare f := by
  have key : ∀ (k : Fin 2 × Dev nD) (x : S8x64x512.Idx),
      x ∈ (Rect.unit (s := S8x64x512) ![k.2.val, 0, 256 * k.1.val] S1x64x256.size (inb_piece k.1 k.2)).set ↔
        ((⟨(x 2).val / 256, by have h : (x 2).val < 512 := (x 2).isLt; omega⟩, x 0) : Fin 2 × Dev nD) = k := fun k x => by
    have b1 : (x 1).val < 64 := (x 1).isLt
    rw [Rect.mem_set_unit]
    constructor
    · intro hx
      have h0 : k.2.val ≤ (x 0).val ∧ (x 0).val < k.2.val + 1 := hx 0
      have h2 : 256 * k.1.val ≤ (x 2).val ∧ (x 2).val < 256 * k.1.val + 256 := hx 2
      exact Prod.ext (Fin.ext (show (x 2).val / 256 = k.1.val by omega)) (Fin.ext (show (x 0).val = k.2.val by omega))
    · rintro rfl a
      match a with
      | ⟨0, _⟩ => show (x 0).val ≤ (x 0).val ∧ (x 0).val < (x 0).val + 1; omega
      | ⟨1, _⟩ => exact ⟨Nat.zero_le _, show (x 1).val < 0 + 64 by omega⟩
      | ⟨2, _⟩ => show 256 * ((x 2).val / 256) ≤ (x 2).val ∧ (x 2).val < 256 * ((x 2).val / 256) + 256; omega
  exact split_key (ℓ := bufPart.view.loc (c : Thread nD τ)) (fun k : Fin 2 × Dev nD => (partM ![k.2.val, 0, 256 * k.1.val] (inb_piece k.1 k.2)).view.set) _
    (fun k x => (Finset.ext_iff.mp ((View.set_reshape _ _).trans (set_rect _ _)) x).trans (key k x)) fullShare f

/-- The product, by what the device keeps and what it sends. -/
theorem split_part (c : Dev nD) (f : S8x64x512.Idx → Elt F .bf16) :
    (bufPart.view.loc (c : Thread nD τ) ↦{fullShare} f : sProp 𝕄)
      = iprop((pt (partM (offOwn 0 c) (inb_own 0 c)) c fullShare f ∗ bigSepL sevens fun i => pt (partM (offSend 0 i c) (inb_send 0 i c)) c fullShare f)
        ∗ pt (partM (offOwn 1 c) (inb_own 1 c)) c fullShare f ∗ bigSepL sevens fun i => pt (partM (offSend 1 i c) (inb_send 1 i c)) c fullShare f) := by
  rw [split_pieces, bigSep_univ_prod, fam_two, fam_dev _ c, fam_dev _ c]
  rw [bigSepL_congr fun i => part_congr c (offSend_eq 0 i c) (inb_piece 0 (c + dist i)) (inb_send 0 i c) f,
    bigSepL_congr fun i => part_congr c (offSend_eq 1 i c) (inb_piece 1 (c + dist i)) (inb_send 1 i c) f,
    part_congr c (offOwn_eq 0 c) (inb_piece 0 c) (inb_own 0 c) f, part_congr c (offOwn_eq 1 c) (inb_piece 1 c) (inb_own 1 c) f]

/-- The reduced rows, by halves. -/
theorem split_red (c : Dev nD) (f : S2x64x256.Idx → Elt F .bf16) :
    (bufRed.view.loc (c : Thread nD τ) ↦{fullShare} f : sProp 𝕄) = iprop(pt (redM 0) c fullShare f ∗ pt (redM 1) c fullShare f) := by
  have key : ∀ (k : Fin 2) (x : S2x64x256.Idx), x ∈ (redR k).set ↔ x 0 = k := fun k x => by
    rw [Rect.mem_set_unit]
    constructor
    · intro h
      have h1 : k.val ≤ (x 0).val ∧ (x 0).val < k.val + 1 := h 0
      exact Fin.ext (show (x 0).val = k.val by omega)
    · rintro rfl a
      match a with
      | ⟨0, _⟩ => show (x 0).val ≤ (x 0).val ∧ (x 0).val < (x 0).val + 1; omega
      | ⟨1, _⟩ => exact ⟨Nat.zero_le _, show (x 1).val < 0 + 64 by have h : (x 1).val < 64 := (x 1).isLt; omega⟩
      | ⟨2, _⟩ => exact ⟨Nat.zero_le _, show (x 2).val < 0 + 256 by have h : (x 2).val < 256 := (x 2).isLt; omega⟩
  rw [← fam_two fun h => pt (redM h) c fullShare f]
  exact split_key (ℓ := bufRed.view.loc (c : Thread nD τ)) (fun h : Fin 2 => (redM h).view.set) _
    (fun k x => (Finset.ext_iff.mp ((View.set_reshape _ _).trans (set_rect _ _)) x).trans (key k x)) fullShare f

/-- A half of the reduced rows, by shares: one kept, one for each send. -/
theorem split_share (c : Dev nD) (h : Fin 2) (f : S2x64x256.Idx → Elt F .bf16) :
    (pt (redM h) c fullShare f : sProp 𝕄) = iprop(pt (redM h) c (redQ 0) f ∗ bigSepL sevens fun i => pt (redM h) c (redQ (dist i)) f) := by
  have e := pointsTo_leaves (Ix := Unit) (Name := ℕ) (U := UU) (Lvl := ℕ) (ℓ := (redM h).view.loc (c : Thread nD τ)) (redM h).view.set f 3 fullShare
  refine e.trans ?_
  exact bigSep_univ_eq_bigSepL (I := Fin 8) [0, 1, 2, 3, 4, 5, 6, 7] (by decide) (by decide) fun i => pt (redM h) c (redQ i) f

/-- An index of a landing buffer lies in the slot its first two coordinates name. -/
theorem mem_slot (x : S2x7x64x256.Idx) (k : Fin 2 × Fin 7) : x ∈ (slotR k.1 k.2).set ↔ ((x 0, x 1) : Fin 2 × Fin 7) = k := by
  rw [Rect.mem_set_unit]
  constructor
  · intro h
    have h0 : k.1.val ≤ (x 0).val ∧ (x 0).val < k.1.val + 1 := h 0
    have h1 : k.2.val ≤ (x 1).val ∧ (x 1).val < k.2.val + 1 := h 1
    exact Prod.ext (Fin.ext (show (x 0).val = k.1.val by omega)) (Fin.ext (show (x 1).val = k.2.val by omega))
  · rintro rfl a
    match a with
    | ⟨0, _⟩ => show (x 0).val ≤ (x 0).val ∧ (x 0).val < (x 0).val + 1; omega
    | ⟨1, _⟩ => show (x 1).val ≤ (x 1).val ∧ (x 1).val < (x 1).val + 1; omega
    | ⟨2, _⟩ => exact ⟨Nat.zero_le _, show (x 2).val < 0 + 64 by have h : (x 2).val < 64 := (x 2).isLt; omega⟩
    | ⟨3, _⟩ => exact ⟨Nat.zero_le _, show (x 3).val < 0 + 256 by have h : (x 3).val < 256 := (x 3).isLt; omega⟩

/-- The landing buffer of the product's pieces, by slots. -/
theorem split_rs (c : Dev nD) (f : S2x7x64x256.Idx → Elt F .bf16) :
    (bufRs.view.loc (c : Thread nD τ) ↦{fullShare} f : sProp 𝕄)
      = iprop((bigSepL sevens fun s => pt (rsM 0 s) c fullShare f) ∗ bigSepL sevens fun s => pt (rsM 1 s) c fullShare f) := by
  rw [← fam_slots fun k => pt (rsM k.1 k.2) c fullShare f]
  exact split_key (ℓ := bufRs.view.loc (c : Thread nD τ)) (fun k : Fin 2 × Fin 7 => (rsM k.1 k.2).view.set) _
    (fun k x => (Finset.ext_iff.mp ((View.set_reshape _ _).trans (set_rect _ _)) x).trans (mem_slot x k)) fullShare f

/-- The landing buffer of the reduced rows, by slots. -/
theorem split_ag (c : Dev nD) (f : S2x7x64x256.Idx → Elt F .bf16) :
    (bufAg.view.loc (c : Thread nD τ) ↦{fullShare} f : sProp 𝕄)
      = iprop((bigSepL sevens fun s => pt (agM 0 s) c fullShare f) ∗ bigSepL sevens fun s => pt (agM 1 s) c fullShare f) := by
  rw [← fam_slots fun k => pt (agM k.1 k.2) c fullShare f]
  exact split_key (ℓ := bufAg.view.loc (c : Thread nD τ)) (fun k : Fin 2 × Fin 7 => (agM k.1 k.2).view.set) _
    (fun k x => (Finset.ext_iff.mp ((View.set_reshape _ _).trans (set_rect _ _)) x).trans (mem_slot x k)) fullShare f

/-- A piece of the result, at the offsets given. -/
abbrev outM (off : Fin 2 → Nat) (inb : ∀ a, off a + S64x256.size a ≤ S512x512.size a) : Memref sig .tc .vmem S64x256 .f32 :=
  bufOut.slice (Rect.unit (s := S512x512) off S64x256.size inb) (fun _ => rfl)

/-- A piece of the result at equal offsets. -/
theorem out_congr (c : Dev nD) {off off' : Fin 2 → Nat} (h : off' = off) (inb : ∀ a, off a + S64x256.size a ≤ S512x512.size a)
    (inb' : ∀ a, off' a + S64x256.size a ≤ S512x512.size a) (f : S512x512.Idx → Elt F .f32) :
    (pt (outM off inb) c fullShare f : sProp 𝕄) = pt (outM off' inb') c fullShare f := by subst h; rfl

/-- The pieces of the result's buffer, all of them. -/
theorem split_outs (c : Dev nD) (f : S512x512.Idx → Elt F .f32) :
    (bufOut.view.loc (c : Thread nD τ) ↦{fullShare} f : sProp 𝕄)
      = bigSep Finset.univ fun k : Fin 2 × Dev nD => pt (outM ![64 * k.2.val, 256 * k.1.val] (inb_outPc k.1 k.2)) c fullShare f := by
  have key : ∀ (k : Fin 2 × Dev nD) (x : S512x512.Idx),
      x ∈ (Rect.unit (s := S512x512) ![64 * k.2.val, 256 * k.1.val] S64x256.size (inb_outPc k.1 k.2)).set ↔
        ((⟨(x 1).val / 256, by have h : (x 1).val < 512 := (x 1).isLt; omega⟩,
          ⟨(x 0).val / 64, by have h : (x 0).val < 512 := (x 0).isLt; show _ < 8; omega⟩) : Fin 2 × Dev nD) = k := fun k x => by
    rw [Rect.mem_set_unit]
    constructor
    · intro hx
      have h0 : 64 * k.2.val ≤ (x 0).val ∧ (x 0).val < 64 * k.2.val + 64 := hx 0
      have h1 : 256 * k.1.val ≤ (x 1).val ∧ (x 1).val < 256 * k.1.val + 256 := hx 1
      exact Prod.ext (Fin.ext (show (x 1).val / 256 = k.1.val by omega)) (Fin.ext (show (x 0).val / 64 = k.2.val by omega))
    · rintro rfl a
      match a with
      | ⟨0, _⟩ => show 64 * ((x 0).val / 64) ≤ (x 0).val ∧ (x 0).val < 64 * ((x 0).val / 64) + 64; omega
      | ⟨1, _⟩ => show 256 * ((x 1).val / 256) ≤ (x 1).val ∧ (x 1).val < 256 * ((x 1).val / 256) + 256; omega
  exact split_key (ℓ := bufOut.view.loc (c : Thread nD τ)) (fun k : Fin 2 × Dev nD => (outM ![64 * k.2.val, 256 * k.1.val] (inb_outPc k.1 k.2)).view.set) _
    (fun k x => (Finset.ext_iff.mp (set_rect _ _) x).trans (key k x)) fullShare f

/-- The result's buffer, by the device's own rows and those that come from the others. -/
theorem split_out (c : Dev nD) (f : S512x512.Idx → Elt F .f32) :
    (bufOut.view.loc (c : Thread nD τ) ↦{fullShare} f : sProp 𝕄)
      = iprop((pt (outM (offRes 0 c) (inb_res 0 c)) c fullShare f ∗ bigSepL sevens fun s => pt (outM (offGot 0 s c) (inb_got 0 s c)) c fullShare f)
        ∗ pt (outM (offRes 1 c) (inb_res 1 c)) c fullShare f ∗ bigSepL sevens fun s => pt (outM (offGot 1 s c) (inb_got 1 s c)) c fullShare f) := by
  rw [split_outs, bigSep_univ_prod, fam_two, fam_dev _ c, fam_dev _ c]
  rw [bigSepL_congr fun s => out_congr c (offGot_eq 0 s c) (inb_outPc 0 (c + dist s)) (inb_got 0 s c) f,
    bigSepL_congr fun s => out_congr c (offGot_eq 1 s c) (inb_outPc 1 (c + dist s)) (inb_got 1 s c) f,
    out_congr c (offRes_eq 0 c) (inb_outPc 0 c) (inb_res 0 c) f, out_congr c (offRes_eq 1 c) (inb_outPc 1 c) (inb_res 1 c) f]

end Cert.KernelIdeal.Proof

end

end
-- ==== Proof.Steps.lean ====
module

public import proofs.«01_k».proof.Proof.Split

/-! # One step of a device

A copy, a signal, a send, a wait: what each takes and gives, under the protocol; and loops of such steps. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × KK → ℕ)

/-- Every cell's invariant and that its round is reached. -/
def recs : sProp 𝕄 := bigSep Finset.univ fun p : Dev nD × KK =>
  iprop(cellInv ER (Rd m) (κ p) (cell p.1 p.2) ∗ reached ER (cell p.1 p.2) 0)

/-- What every step may use again and again: the cells' invariants and the levels. -/
def ctx : sProp 𝕄 := iprop(recs m κ ∗ levAts L lv)

instance recs_persistent : BI.Persistent (recs m κ) := by unfold recs; infer_instance
instance ctx_persistent : BI.Persistent (ctx m κ) := by unfold ctx; infer_instance

theorem ctx_cell (c : Dev nD) (k : KK) :
    ctx m κ ⊢ iprop(cellInv ER (Rd m) (κ (c, k)) (cell c k) ∗ reached ER (cell c k) 0) := by
  unfold ctx recs
  iintro ⟨H, -⟩
  iapply (show (bigSep Finset.univ fun p : Dev nD × KK => iprop(cellInv ER (Rd m) (κ p) (cell p.1 p.2) ∗ reached ER (cell p.1 p.2) 0))
    ⊢ iprop(cellInv ER (Rd m) (κ (c, k)) (cell c k) ∗ reached ER (cell c k) 0) from BI.bigSep_elim (Finset.mem_univ ((c, k) : Dev nD × KK)))
  iexact H

theorem ctx_inv (c : Dev nD) (k : KK) : ctx m κ ⊢ cellInv ER (Rd m) (κ (c, k)) (cell c k) := by
  iintro H
  ihave H := (ctx_cell m κ c k) $$ H
  icases H with ⟨H, -⟩
  iexact H
theorem ctx_reached (c : Dev nD) (k : KK) : ctx m κ ⊢ (reached ER (cell c k) 0 : sProp 𝕄) := by
  iintro H
  ihave H := (ctx_cell m κ c k) $$ H
  icases H with ⟨-, H⟩
  iexact H
theorem ctx_lev : ctx m κ ⊢ (levAts L lv : sProp 𝕄) := by
  unfold ctx
  iintro ⟨-, H⟩
  iexact H

/-- The right to wait for an amount on a cell. -/
abbrev credit (c : Dev nD) (k : KK) (n : ℕ) : sProp 𝕄 := cred (tallyAt (cell c k) () n)
/-- The owner's place at a cell's only round. -/
abbrev atR (c : Dev nD) (k : KK) : sProp 𝕄 := atPos ER (cell c k) 0 ∅ 0
/-- The right to perform a cell's duty. -/
abbrev tok (c : Dev nD) (k : KK) (d : Fin 7) : sProp 𝕄 := dutyTok ER (cell c k) 0 d
/-- A cell's counter, zero again. -/
abbrev zero (c : Dev nD) (k : KK) : sProp 𝕄 := semVal (cell c k) 0

/-- Waiting on a scoped cell of one's own: what it hands over, the counter, and the debts as before. -/
theorem step_wait (c : Dev nD) (k : KI) (b : ℕ) (hb : lvK (some (.inr k)) ≤ b) (l : List (GSem nD τ sig × ℕ)) (hl : Above b l)
    (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (csem (.inr k)) (amt (.inr k)) K) :
    iprop(ctx m κ ∗ credit c (.inr k) (amt (.inr k)) ∗ atR c (.inr k) ∗ ow c l)
      ⊢ runs c (Prog.lift w) (fun _ => iprop(pay m c (.inr k) 0 ∗ zero c (.inr k) ∗ ow c l)) := by
  unfold ow runs
  iintro ⟨#Hc, Hcr, Hat, ⟨%W, HO⟩⟩
  simp only [Prog.lift]
  iapply (Rounds.wp_wait_rest_token 𝒱₀ ER (Rd m) (c : Thread nD τ) none (κ := κ (c, .inr k)) hw (Set.mem_univ _) () (O := owedOf l) (W := W)
      (R := 0) (m := 0) (T := ∅) (by rw [Nat.zero_add]; exact (Rd_expect_own m c k).symm)) $$ [Hcr HO Hat]
  · isplitr; · iapply (ctx_inv m κ c (.inr k)); iexact Hc
    isplitl [Hcr]; · iexact Hcr
    isplitl [HO]; · iexact HO
    isplitr
    · iapply (mayWait_of c (csem (.inr k)) b (by rw [dec_csem]; exact hb) l hl)
      iapply (ctx_lev m κ); iexact Hc
    iexact Hat
  iintro ⟨HO, Hat, -, Hpay⟩
  ihave Hp := (Entails.of_eq (Rd_rest_own m c k)) $$ Hpay
  imod (Rounds.cell_close ER (Rd m) (Set.mem_univ (κ (c, .inr k))) (fun h => h) (R := 0 + 1) (Rd_later m (cell c (.inr k)))) $$ [Hat] with Hz
  · isplitr; · iapply (ctx_inv m κ c (.inr k)); iexact Hc
    iexact Hat
  rw [wp_ret]; imodintro
  isplitl [Hp]; · iexact Hp
  isplitl [Hz]; · iexact Hz
  iexists _; iexact HO

/-- Waiting on the barrier: the slots of every other device that this one sends into. -/
theorem step_bar (c : Dev nD) (l : List (GSem nD τ sig × ℕ)) (hl : Above 1 l) :
    iprop(ctx m κ ∗ credit c kBar 7 ∗ atR c kBar ∗ ow c l)
      ⊢ runs c (semWaitWord barS 7#32) (fun _ => iprop((bigSepL sevens fun i => slots (F := F) (c + dist i) (opp i)) ∗ zero c kBar ∗ ow c l)) := by
  unfold ow runs
  iintro ⟨#Hc, Hcr, Hat, ⟨%W, HO⟩⟩
  simp only [semWaitWord, Prog.lift]
  iapply (Rounds.wp_wait_rest_token 𝒱₀ ER (Rd m) (c : Thread nD τ) none (κ := κ (c, kBar))
      (wpE_semWait_eq 𝒱₀ (c : Thread nD τ) none Set.univ) (Set.mem_univ _) () (O := owedOf l) (W := W)
      (R := 0) (m := 0) (T := ∅) (by rw [Nat.zero_add]; exact (Rd_expect_bar m c).symm)) $$ [Hcr HO Hat]
  · isplitr; · iapply (ctx_inv m κ c kBar); iexact Hc
    isplitl [Hcr]; · iexact Hcr
    isplitl [HO]; · iexact HO
    isplitr
    · iapply (mayWait_of c (csem kBar) 1 (by rw [dec_csem]; exact le_rfl) l hl)
      iapply (ctx_lev m κ); iexact Hc
    iexact Hat
  iintro ⟨HO, Hat, -, Hpay⟩
  ihave Hp := (show (bigSep ((Rd m).duties ((c : Thread nD τ), SemLoc.reg barS) 0 \ ∅) fun d => (Rd m).payload ((c : Thread nD τ), SemLoc.reg barS) 0 d)
    ⊢ bigSepL sevens fun i => slots (F := F) (c + dist i) (opp i) from Entails.of_eq (Rd_rest_bar m c)) $$ Hpay
  imod (Rounds.cell_close ER (Rd m) (Set.mem_univ (κ (c, kBar))) (fun h => h) (R := 0 + 1) (Rd_later m (cell c kBar))) $$ [Hat] with Hz
  · isplitr; · iapply (ctx_inv m κ c kBar); iexact Hc
    iexact Hat
  rw [wp_ret]; imodintro
  isplitl [Hp]; · iexact Hp
  isplitl [Hz]; · iexact Hz
  iexists _; iexact HO

/-- Signalling the device at distance `i + 1`: it gets this device's slots for what it sends. -/
theorem step_sig (c : Dev nD) (i : Fin 7) (l : List (GSem nD τ sig × ℕ)) :
    iprop(ctx m κ ∗ (tok (c + dist i) kBar (opp i) ∗ slots (F := F) c i) ∗ ow c (dBar c i :: l)) ⊢ runs c (sig1 c i) (fun _ => iprop(emp ∗ ow c l)) := by
  unfold ow runs sig1
  rw [devSig_eq c i]
  iintro ⟨#Hc, ⟨Ht, Hs⟩, ⟨%W, HO⟩⟩
  simp only [semSignalWord, Prog.lift]
  iapply (Rounds.wp_signal 𝒱₀ ER (Rd m) (c : Thread nD τ) none (dst := ((c + dist i : Dev nD) : Thread nD τ)) (κ := κ (c + dist i, kBar))
      (d := opp i) (r := 0) (by exact (Rd_duties m (c + dist i) kBar).symm ▸ Finset.mem_univ _) (by exact Rd_amount m (c + dist i) kBar (opp i)) () (owedOf l) rfl)
    $$ [HO Ht Hs]
  · isplitr; · iapply (ctx_inv m κ (c + dist i) kBar); iexact Hc
    isplitl [HO]; · iexact HO
    isplitl [Ht]; · iexact Ht
    isplitl [Hs]
    · iapply (show slots (F := F) c i ⊢ (Rd m).payload (((c + dist i : Dev nD) : Thread nD τ), SemLoc.reg barS) 0 (opp i) from Entails.of_eq (by
        refine Eq.trans ?_ (Rd_payload m (c + dist i) kBar (opp i)).symm
        show _ = slots (c + dist i + dist (opp i)) (opp (opp i))
        rw [back, opp_opp]))
      iexact Hs
    iapply (ctx_reached m κ (c + dist i) kBar); iexact Hc
  iintro HO
  rw [wp_ret]; imodintro
  isplitr; · iempintro
  iexists _; iexact HO

/-- Starting the copy of block `t` of factor `b`. -/
theorem step_fetch (c : Dev nD) (b : Fin 2) (t : Fin 8) :
    iprop(ctx m κ ∗ tok c (kIn b t) 0 ∗ free (F := F) (blkM b t) c ∗ pt (colM b t) c fullShare (inX m b c))
      ⊢ runs c (fetch1 b t) (fun _ => credit (F := F) c (kIn b t) Nin) := by
  unfold free runs fetch1
  iintro ⟨#Hc, Ht, ⟨%f, Hd⟩, Hs⟩
  simp only [Prog.lift]
  unfold pt
  iapply (Rounds.wp_copy_pointsTo 𝒱₀ ER (Rd m) (c : Thread nD τ) none (κ := κ (c, kIn b t)) (r := 0) (d := 0)
      (src := colM b t) (dst := blkM b t) (sem := .dma (inSem b t)) (q := fullShare) (fs := inX m b c) (fd := f)
      (by exact (Rd_duties m c (kIn b t)).symm ▸ Finset.mem_singleton_self _) () Nin (by match b with | 0 => rfl | 1 => rfl)
      (by exact Rd_amount m c (kIn b t) 0) (by
        refine BI.Entails.trans ?_ (Entails.of_eq (Rd_payload m c (kIn b t) 0).symm)
        show _ ⊢ iprop(pt (blkM b t) c fullShare (inW m b c) ∗ pt (colM b t) c fullShare (inX m b c))
        rw [← pt_write (blkM b t) c fullShare f (inW m b c) _ (read_in m b c t)]
        exact BI.Entails.refl _)) $$ [Ht Hd Hs]
  · isplitr; · iapply (ctx_inv m κ c (kIn b t)); iexact Hc
    isplitl [Hs]; · iexact Hs
    isplitl [Hd]; · iexact Hd
    isplitl [Ht]; · iexact Ht
    iapply (ctx_reached m κ c (kIn b t)); iexact Hc
  iintro Hcr
  rw [wp_ret]; imodintro
  iexact Hcr

/-- Sending to device `e`: the duty of one's own cell is to hand the source back, the duty of `e`'s that what landed is `V`. -/
theorem step_send (c n e : Dev nD) (hn : n = e) {s : Shape} {t : EltTy} (kS kR : KI) (src dst : Memref sig .tc .vmem s t)
    (hN : dst.view.amount (csem (.inr kR)) = Nx) (hS : amt (.inr kS) = Nx) (hR : amt (.inr kR) = Nx) (q : PosShare TreeShare)
    (fs : Buf (Elt F) (src.view.loc (c : Thread nD τ))) (V : Buf (Elt F) (dst.view.loc (e : Thread nD τ)))
    (hS' : pay m c (.inr kS) 0 = pt src c q fs) (hR' : pay m e (.inr kR) 0 = pt dst e fullShare V)
    (hV : dst.view.read (Elt F) V = src.view.read (Elt F) fs) {hsc hsrc hdst hsem}
    (l : List (GSem nD τ sig × ℕ)) :
    iprop(ctx m κ ∗ (tok c (.inr kS) 0 ∗ tok e (.inr kR) 0 ∗ free (F := F) dst e ∗ pt src c q fs) ∗ ow c ((cell e (.inr kR), Nx) :: l))
      ⊢ runs c (Prog.lift (.enqueueDma src (.remote (Dev.tc n) dst (csem (.inr kS)) hsc) (csem (.inr kR)) hsrc hdst hsem))
        (fun _ => iprop(credit (F := F) c (.inr kS) Nx ∗ ow c l)) := by
  subst hn
  unfold free ow runs
  iintro ⟨#Hc, ⟨Ht, Ht', ⟨%f, Hd⟩, Hs⟩, ⟨%W, HO⟩⟩
  simp only [Prog.lift]
  have h1 : (src.view.loc (c : Thread nD τ) ↦[src.view.set]{q} fs : sProp 𝕄) ⊢ (Rd m).payload (cell c (.inr kS)) 0 0 := by
    rw [Rd_payload, hS']; exact BI.Entails.refl _
  have h2 : (dst.view.loc (n : Thread nD τ) ↦[dst.view.set]{fullShare} (dst.view.write (Elt F) f (src.view.read (Elt F) fs) Finset.univ) : sProp 𝕄)
      ⊢ (Rd m).payload (cell n (.inr kR)) 0 0 := by
    rw [Rd_payload, hR', ← pt_write dst n fullShare f V _ hV]; exact BI.Entails.refl _
  unfold pt
  iapply (Rounds.wp_send_pointsTo 𝒱₀ ER (Rd m) (c : Thread nD τ) none (c' := (n : Thread nD τ)) (src := src) (dst := dst)
      (sS := csem (.inr kS)) (sem := csem (.inr kR)) (κ₁ := κ (c, .inr kS)) (κ₂ := κ (n, .inr kR))
      (r₁ := 0) (r₂ := 0) (d₁ := 0) (d₂ := 0) (fd := f) (fs := fs) (q := q)
      ((Rd_duties m c (.inr kS)).symm ▸ Finset.mem_singleton_self _)
      ((Rd_duties m n (.inr kR)).symm ▸ Finset.mem_singleton_self _)
      () () Nx hN ((Rd_amount m c (.inr kS) 0).trans hS) ((Rd_amount m n (.inr kR) 0).trans hR) (owedOf l) rfl (W := W) h1 h2) $$ [Ht Ht' Hd Hs HO]
  · isplitr; · iapply (ctx_inv m κ c (.inr kS)); iexact Hc
    isplitr; · iapply (ctx_inv m κ n (.inr kR)); iexact Hc
    isplitl [Hs]; · iexact Hs
    isplitl [Hd]; · iexact Hd
    isplitl [HO]; · iexact HO
    isplitl [Ht]; · iexact Ht
    isplitr; · iapply (ctx_reached m κ c (.inr kS)); iexact Hc
    isplitl [Ht']; · iexact Ht'
    iapply (ctx_reached m κ n (.inr kR)); iexact Hc
  iintro ⟨Hcr, HO⟩
  rw [wp_ret]; imodintro
  isplitl [Hcr]; · iexact Hcr
  iexists _; iexact HO

/-- Sending the device at distance `i + 1` half `h` of its rows of the product. -/
theorem step_rsSend (c : Dev nD) (h : Fin 2) (i : Fin 7) (l : List (GSem nD τ sig × ℕ)) :
    iprop(ctx m κ ∗ (tok c (kX 0 h i) 0 ∗ tok (c + dist i) (kX 1 h (opp i)) 0 ∗ free (F := F) (rsM h (opp i)) (c + dist i)
        ∗ pt (partM (offSend h i c) (inb_send h i c)) c fullShare (partW m c)) ∗ ow c (dX 1 h c i :: l))
      ⊢ runs c (rsSend h c i) (fun _ => iprop(credit (F := F) c (kX 0 h i) Nx ∗ ow c l)) :=
  step_send m κ c (devRs h c i) (c + dist i) (devRs_eq h c i) (.inr (0, h, i)) (.inr (1, h, opp i)) _ (rsM h (opp i)) rfl rfl rfl fullShare _
    (rsW m (c + dist i)) rfl rfl ((read_rs m _ h (opp i)).trans (rsV_sent m c h i)) l

/-- Sending the device at distance `i + 1` half `h` of the reduced rows. -/
theorem step_agSend (c : Dev nD) (h : Fin 2) (i : Fin 7) (l : List (GSem nD τ sig × ℕ)) :
    iprop(ctx m κ ∗ (tok c (kX 2 h i) 0 ∗ tok (c + dist i) (kX 3 h (opp i)) 0 ∗ free (F := F) (agM h (opp i)) (c + dist i)
        ∗ pt (redM h) c (redQ (dist i)) (redW m c)) ∗ ow c (dX 3 h c i :: l))
      ⊢ runs c (agSend h c i) (fun _ => iprop(credit (F := F) c (kX 2 h i) Nx ∗ ow c l)) :=
  step_send m κ c (devAg h c i) (c + dist i) (devAg_eq h c i) (.inr (2, h, i)) (.inr (3, h, opp i)) _ (agM h (opp i)) rfl rfl rfl _ _
    (agW m (c + dist i)) rfl rfl ((read_ag m _ h (opp i)).trans (agV_sent m c h i)) l

/-! ## Loops -/

theorem bigSepL_two {ι : Type} (i : ι) (l : List ι) (Φ : ι → sProp 𝕄) : bigSepL (i :: l) Φ = iprop(Φ i ∗ bigSepL l Φ) := bigSepL_cons i l Φ

/-- A loop, from its step: `R` is kept, each step turns `Pre i` into `Post i` and moves `T` on. -/
theorem run_loop (c : Dev nD) {ι : Type} (f : ι → P F PUnit) (R : sProp 𝕄) [BI.Persistent R] (Pre Post : ι → sProp 𝕄) (T : List ι → sProp 𝕄)
    (step : ∀ i l, iprop(R ∗ Pre i ∗ T (i :: l)) ⊢ runs c (f i) (fun _ => iprop(Post i ∗ T l))) :
    ∀ l, iprop(R ∗ bigSepL l Pre ∗ T l) ⊢ runs c (loop f l) (fun _ => iprop(bigSepL l Post ∗ T []))
  | [] => by
    show _ ⊢ wp _ _ _ (.ret _) _
    rw [wp_ret]
    iintro ⟨-, H⟩
    imodintro
    iexact H
  | i :: l => by
    show _ ⊢ wp _ _ _ (f i >>= fun _ => loop f l) _
    rw [wp_bind, bigSepL_two, bigSepL_two]
    iintro ⟨#HR, ⟨Hp, Hps⟩, HT⟩
    ihave Hw := (step i l) $$ [Hp HT]
    · isplitr; · iexact HR
      isplitl [Hp]; · iexact Hp
      iexact HT
    iapply (wp_wand _ _ _) $$ Hw
    iintro %_ ⟨Hq, HT⟩
    ihave Hw := (run_loop c f R Pre Post T step l) $$ [Hps HT]
    · isplitr; · iexact HR
      isplitl [Hps]; · iexact Hps
      iexact HT
    iapply (wp_wand _ _ _) $$ Hw
    iintro %_ ⟨Hqs, HT⟩
    isplitl [Hq Hqs]
    · isplitl [Hq]; · iexact Hq
      iexact Hqs
    iexact HT

/-- A value carried through a loop, from its step. -/
theorem run_fold (c : Dev nD) {ι α : Type} (f : ι → α → P F α) (g : α → ι → α) (R : sProp 𝕄) [BI.Persistent R] (Pre Post : ι → sProp 𝕄) (T : sProp 𝕄)
    (step : ∀ i a, iprop(R ∗ Pre i ∗ T) ⊢ runs c (f i a) (fun r => iprop(⌜r = g a i⌝ ∗ Post i ∗ T))) :
    ∀ l a, iprop(R ∗ bigSepL l Pre ∗ T) ⊢ runs c (fold f l a) (fun r => iprop(⌜r = l.foldl g a⌝ ∗ bigSepL l Post ∗ T))
  | [], a => by
    show _ ⊢ wp _ _ _ (.ret _) _
    rw [wp_ret]
    iintro ⟨-, H⟩
    imodintro
    isplitr; · ipureintro; rfl
    iexact H
  | i :: l, a => by
    show _ ⊢ wp _ _ _ (f i a >>= fun a => fold f l a) _
    rw [wp_bind, bigSepL_two, bigSepL_two]
    iintro ⟨#HR, ⟨Hp, Hps⟩, HT⟩
    ihave Hw := (step i a) $$ [Hp HT]
    · isplitr; · iexact HR
      isplitl [Hp]; · iexact Hp
      iexact HT
    iapply (wp_wand _ _ _) $$ Hw
    iintro %r ⟨%hr, Hq, HT⟩
    subst hr
    ihave Hw := (run_fold c f g R Pre Post T step l (g a i)) $$ [Hps HT]
    · isplitr; · iexact HR
      isplitl [Hps]; · iexact Hps
      iexact HT
    iapply (wp_wand _ _ _) $$ Hw
    iintro %r ⟨%hr, Hqs, HT⟩
    isplitr; · ipureintro; exact hr
    isplitl [Hq Hqs]
    · isplitl [Hq]; · iexact Hq
      iexact Hqs
    iexact HT

end Cert.KernelIdeal.Proof

end

end
-- ==== Proof.Phases.lean ====
module

public import proofs.«01_k».proof.Proof.Steps

/-! # The phases of a device's run

Each part of the body, from what it needs to what it leaves: the product, the reduction of a half, the result's pieces, the
loops of sends and waits. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sequencing -/

/-- A part of a program, at its head. -/
theorem seq {c : Dev nD} {α β : Type} {p : P F α} {k : α → P F β} {A : sProp 𝕄} {B : α → sProp 𝕄} {Q : β → sProp 𝕄} (h : A ⊢ runs c p B) :
    A ⊢ iprop((∀ a, B a -∗ runs c (k a) Q) -∗ runs c (p >>= k) Q) := by
  unfold runs at *
  rw [wp_bind]
  iintro HA Hk
  ihave Hw := h $$ HA
  iapply (wp_wand _ _ _) $$ Hw
  iexact Hk

/-- A part of a program, at its end. -/
theorem last {c : Dev nD} {α : Type} {p : P F α} {A : sProp 𝕄} {B Q : α → sProp 𝕄} (h : A ⊢ runs c p B) :
    A ⊢ iprop((∀ a, B a -∗ Q a) -∗ runs c p Q) := by
  unfold runs at *
  iintro HA Hk
  ihave Hw := h $$ HA
  iapply (wp_wand _ _ _) $$ Hw
  iexact Hk

/-- The end of a program. -/
theorem done {c : Dev nD} {α : Type} (a : α) (Q : α → sProp 𝕄) : Q a ⊢ runs c (pure a) Q := by
  show _ ⊢ wp _ _ _ (.ret a) _
  rw [wp_ret]
  iintro H
  imodintro
  iexact H

/-! ## Loads and stores -/

section
variable (c : Dev nD) {s : Shape} {e : EltTy} (M : Memref sig .tc .vmem s e) (r : Rect s) (S : Finset (Idx (M.view.loc (c : Thread nD τ))))

/-- A load leaves what it reads. -/
theorem run_load (q : PosShare TreeShare) (f : Buf (Elt F) (M.view.loc (c : Thread nD τ))) (hS : (M.access r).set ⊆ S) {hl} :
    (M.view.loc (c : Thread nD τ) ↦[S]{q} f : sProp 𝕄)
      ⊢ runs c (Prog.lift (.load M r.toLoadRect hl)) (fun v => iprop(⌜v = M.view.readAt (Elt F) r.toLoadRect f⌝ ∗ (M.view.loc (c : Thread nD τ) ↦[S]{q} f))) := by
  unfold runs
  iintro H
  simp only [Prog.lift]
  iapply (wp_load_rect 𝒱₀ (c : Thread nD τ) none Set.univ (m := M) (r := r) (S := S) hS) $$ [H]
  · iexact H
  iintro H
  rw [wp_ret]; imodintro
  isplitr; · ipureintro; rfl
  iexact H

/-- A load whose value is not used. -/
theorem run_load_any (hS : (M.access r).set ⊆ S) {hl} :
    iprop(∃ f : Buf (Elt F) (M.view.loc (c : Thread nD τ)), (M.view.loc (c : Thread nD τ) ↦[S]{fullShare} f))
      ⊢ (runs c (Prog.lift (.load M r.toLoadRect hl)) (fun v => iprop(∃ f : Buf (Elt F) (M.view.loc (c : Thread nD τ)), (M.view.loc (c : Thread nD τ) ↦[S]{fullShare} f))) : sProp 𝕄) := by
  iintro ⟨%f, H⟩
  iapply (last (run_load c M r S fullShare f hS)) $$ [H]
  · iexact H
  iintro %v ⟨-, H⟩
  iexists f; iexact H

/-- A store of the elements held leaves any contents that read as what was stored. -/
theorem run_store (g : Buf (Elt F) (M.view.loc (c : Thread nD τ))) (w : r.shape.Idx → Elt F e) (hS : (M.access r).set = S)
    (hg : (M.access r).read (Elt F) g = w) {hx hm} :
    iprop(∃ f : Buf (Elt F) (M.view.loc (c : Thread nD τ)), (M.view.loc (c : Thread nD τ) ↦[S]{fullShare} f))
      ⊢ (runs c (Prog.lift (.store M r w Finset.univ hx hm)) (fun _ => (M.view.loc (c : Thread nD τ) ↦[S]{fullShare} g)) : sProp 𝕄) := by
  subst hS
  unfold runs
  iintro ⟨%f, H⟩
  simp only [Prog.lift]
  iapply (wp_store 𝒱₀ (c : Thread nD τ) none Set.univ (m := M) (r := r) (w := w) (Mk := Finset.univ) (S := (M.access r).set) (f := f)
    (by rw [View.setOn_univ])) $$ [H]
  · iexact H
  iintro H
  rw [wp_ret]; imodintro
  have e : ((M.access r).loc (c : Thread nD τ) ↦[(M.access r).set]{fullShare} (M.access r).write (Elt F) f w Finset.univ : sProp 𝕄)
      = ((M.access r).loc (c : Thread nD τ) ↦[(M.access r).set]{fullShare} g) := pointsTo_congr fun i hi => by
    obtain ⟨x, _, rfl⟩ := Finset.mem_map.mp hi
    have h : (M.access r).read (Elt F) ((M.access r).write (Elt F) f w Finset.univ) = (M.access r).read (Elt F) g := by
      rw [View.read_write_univ, hg]
    exact (cast_inj _).mp (congrFun h x)
  iapply (Entails.of_eq e)
  iexact H

end

variable (m : (ℓ : Loc nD τ sig) → Buf (Elt F) ℓ) (κ : Dev nD × KK → ℕ)

/-! ## The product -/

/-- Waiting for both copies of block `t` needs this. -/
def inPre (c : Dev nD) (t : Fin 8) : sProp 𝕄 :=
  iprop((credit (F := F) c (kIn 0 t) Nin ∗ atR c (kIn 0 t)) ∗ credit c (kIn 1 t) Nin ∗ atR c (kIn 1 t))
/-- Block `t` of both factors, copied. -/
def inPost (c : Dev nD) (t : Fin 8) : sProp 𝕄 :=
  iprop((pay m c (kIn 0 t) 0 ∗ zero c (kIn 0 t)) ∗ pay m c (kIn 1 t) 0 ∗ zero c (kIn 1 t))

theorem load_dy (c : Dev nD) (t : Fin 8) {hl} : pt (blkM 0 t) c fullShare (inW m 0 c)
    ⊢ runs c (Prog.lift (.load bufDyV (blkR t).toLoadRect hl)) (fun v => iprop(⌜v = blkA m c t⌝ ∗ pt (blkM 0 t) c fullShare (inW m 0 c))) :=
  run_load c bufDyV (blkR t) (blkM 0 t).view.set fullShare (inW m 0 c) (View.set_reshape _ _).ge
theorem load_w (c : Dev nD) (t : Fin 8) {hl} : pt (blkM 1 t) c fullShare (inW m 1 c)
    ⊢ runs c (Prog.lift (.load bufWV (blkR t).toLoadRect hl)) (fun v => iprop(⌜v = blkB m c t⌝ ∗ pt (blkM 1 t) c fullShare (inW m 1 c))) :=
  run_load c bufWV (blkR t) (blkM 1 t).view.set fullShare (inW m 1 c) (View.set_reshape _ _).ge

/-- Waiting for the copy of block `t` of factor `b`. -/
theorem step_await (c : Dev nD) (b : Fin 2) (t : Fin 8) (l : List (GSem nD τ sig × ℕ)) (hl : Above 0 l) :
    iprop(ctx m κ ∗ credit c (kIn b t) Nin ∗ atR c (kIn b t) ∗ ow c l)
      ⊢ runs c (await1 b t) (fun _ => iprop(pay m c (kIn b t) 0 ∗ zero c (kIn b t) ∗ ow c l)) :=
  step_wait m κ c (.inl (b, t)) 0 le_rfl l hl _ (fun K => by
    match b with
    | 0 => exact wpE_waitDma2_eq 𝒱₀ (c : Thread nD τ) none Set.univ K
    | 1 => exact wpE_waitDma2_eq 𝒱₀ (c : Thread nD τ) none Set.univ K)

/-- Waiting for block `t` of both factors and reading it. -/
theorem step_fetched (c : Dev nD) (t : Fin 8) (l : List (GSem nD τ sig × ℕ)) (hl : Above 0 l) :
    iprop(ctx m κ ∗ inPre (F := F) c t ∗ ow c l)
      ⊢ runs c (fetched t) (fun r => iprop(⌜r = (blkA m c t, blkB m c t)⌝ ∗ inPost m c t ∗ ow c l)) := by
  unfold inPre inPost fetched
  iintro ⟨#Hc, ⟨⟨Hc0, Ha0⟩, Hc1, Ha1⟩, HO⟩
  iapply (seq (step_await m κ c 0 t l hl)) $$ [Hc0 Ha0 HO]
  · isplitr; · iexact Hc
    isplitl [Hc0]; · iexact Hc0
    isplitl [Ha0]; · iexact Ha0
    iexact HO
  iintro %_ ⟨Hp0, Hz0, HO⟩
  iapply (seq (step_await m κ c 1 t l hl)) $$ [Hc1 Ha1 HO]
  · isplitr; · iexact Hc
    isplitl [Hc1]; · iexact Hc1
    isplitl [Ha1]; · iexact Ha1
    iexact HO
  iintro %_ ⟨Hp1, Hz1, HO⟩
  simp only [pay]
  icases Hp0 with ⟨Hb0, Hi0⟩
  icases Hp1 with ⟨Hb1, Hi1⟩
  iapply (seq (load_dy m c t)) $$ [Hb0]
  · iexact Hb0
  iintro %a ⟨%ha, Hb0⟩
  iapply (seq (load_w m c t)) $$ [Hb1]
  · iexact Hb1
  iintro %b ⟨%hb, Hb1⟩
  subst ha; subst hb
  iapply (done _ _)
  isplitr; · ipureintro; rfl
  isplitr [HO]
  · isplitl [Hb0 Hi0 Hz0]
    · isplitl [Hb0 Hi0]
      · isplitl [Hb0]; · iexact Hb0
        iexact Hi0
      iexact Hz0
    · isplitl [Hb1 Hi1]
      · isplitl [Hb1]; · iexact Hb1
        iexact Hi1
      iexact Hz1
  iexact HO

/-- One more block. -/
theorem step_mm (c : Dev nD) (l : List (GSem nD τ sig × ℕ)) (hl : Above 0 l) (t : Fin 8) (a : FVec F S512x512 .f32) :
    iprop(ctx m κ ∗ inPre (F := F) c t ∗ ow c l)
      ⊢ runs c (mmStep t a) (fun r => iprop(⌜r = accStep m c a t⌝ ∗ inPost m c t ∗ ow c l)) := by
  unfold mmStep
  iintro H
  iapply (seq (step_fetched m κ c t l hl)) $$ H
  iintro %r ⟨%hr, H⟩
  subst hr
  iapply (done _ _)
  isplitr; · ipureintro; rfl
  iexact H

/-- The rectangle that is the whole product. -/
abbrev partR : Rect S8x64x512 := Rect.unit (s := S8x64x512) ![0, 0, 0] S8x64x512.size inb_S8x64x512_S8x64x512_0_0_0

theorem emb_partR (y : S8x64x512.Idx) : partR.emb y = y := by
  funext a
  refine Fin.ext ?_
  show (![0, 0, 0] : Fin 3 → Nat) a + 1 * (y a).val = _
  rw [show (![0, 0, 0] : Fin 3 → Nat) a = 0 by fin_cases a <;> rfl]; omega
theorem set_partR : (bufPart.access partR).set = Finset.univ :=
  (set_rect _ _).trans (Finset.eq_univ_of_forall fun x => by
    rw [Rect.mem_set_unit]
    intro a
    have h : (![0, 0, 0] : Fin 3 → Nat) a = 0 := by fin_cases a <;> rfl
    rw [h]
    exact ⟨Nat.zero_le _, by rw [Nat.zero_add]; exact (x a).isLt⟩)
theorem read_partR (f : S8x64x512.Idx → Elt F .bf16) : (bufPart.access partR).read (Elt F) f = f := funext fun y => congrArg f (emb_partR y)

/-- The product: from the copies under way to the product stored. -/
theorem run_product (c : Dev nD) (l : List (GSem nD τ sig × ℕ)) (hl : Above 0 l) :
    iprop(ctx m κ ∗ bigSepL eights (inPre (F := F) c)
        ∗ (∃ f : Buf (Elt F) (bufPart.view.loc (c : Thread nD τ)), (bufPart.view.loc (c : Thread nD τ) ↦{fullShare} f)) ∗ ow c l)
      ⊢ runs c product (fun _ => iprop(bigSepL eights (inPost m c) ∗ (bufPart.view.loc (c : Thread nD τ) ↦{fullShare} (partW m c)) ∗ ow c l)) := by
  unfold product
  have e1 : bigSepL eights (inPre (F := F) c) = iprop(inPre (F := F) c 0 ∗ bigSepL [1, 2, 3, 4, 5, 6, 7] (inPre (F := F) c)) := bigSepL_two _ _ _
  have e2 : bigSepL eights (inPost m c) = iprop(inPost m c 0 ∗ bigSepL [1, 2, 3, 4, 5, 6, 7] (inPost m c)) := bigSepL_two _ _ _
  rw [e1, e2]
  iintro ⟨#Hc, ⟨H0, Hs⟩, Hp, HO⟩
  iapply (seq (step_fetched m κ c 0 l hl)) $$ [H0 HO]
  · isplitr; · iexact Hc
    isplitl [H0]; · iexact H0
    iexact HO
  iintro %r ⟨%hr, H0, HO⟩
  subst hr
  iapply (seq (run_fold c mmStep (accStep m c) (ctx m κ) (inPre (F := F) c) (inPost m c) (ow c l) (step_mm m κ c l hl) [1, 2, 3, 4, 5, 6, 7] _)) $$ [Hs HO]
  · isplitr; · iexact Hc
    isplitl [Hs]; · iexact Hs
    iexact HO
  iintro %r ⟨%hr, Hs, HO⟩
  subst hr
  iapply (seq (run_load_any c bufPart partR Finset.univ (Finset.subset_univ _))) $$ [Hp]
  · iexact Hp
  iintro %_ Hp
  iapply (last (run_store c bufPart partR Finset.univ (partW m c) _ set_partR (read_partR (partW m c)))) $$ [Hp]
  · iexact Hp
  iintro %_ Hp
  isplitl [H0 Hs]
  · isplitl [H0]; · iexact H0
    iexact Hs
  isplitl [Hp]; · iexact Hp
  iexact HO

/-! ## The reduction -/

theorem load_own (c : Dev nD) (h : Fin 2) {hl} : pt (partM (offOwn h c) (inb_own h c)) c fullShare (partW m c)
    ⊢ runs c (Prog.lift (.load bufPart (Rect.unit (s := S8x64x512) (offOwn h c) S1x64x256.size (inb_own h c)).toLoadRect hl))
      (fun v => iprop(⌜v = ownP m c h⌝ ∗ pt (partM (offOwn h c) (inb_own h c)) c fullShare (partW m c))) :=
  run_load c bufPart _ (partM (offOwn h c) (inb_own h c)).view.set fullShare (partW m c) (View.set_reshape _ _).ge
theorem load_rs (c : Dev nD) (h : Fin 2) (s : Fin 7) : pt (rsM h s) c fullShare (rsW m c)
    ⊢ runs c (rsLoad h s) (fun v => iprop(⌜v = gotP m c h s⌝ ∗ pt (rsM h s) c fullShare (rsW m c))) :=
  run_load c bufRs (slotR h s) (rsM h s).view.set fullShare (rsW m c) (View.set_reshape _ _).ge

theorem any_red (c : Dev nD) (h : Fin 2) {hl} : free (F := F) (redM h) c ⊢ runs c (Prog.lift (.load bufRed (redR h).toLoadRect hl)) (fun _ => free (redM h) c) :=
  run_load_any c bufRed (redR h) (redM h).view.set (View.set_reshape _ _).ge
theorem put_red (c : Dev nD) (h : Fin 2) {hx hm} : free (redM h) c
    ⊢ runs c (Prog.lift (.store bufRed (redR h) (packRed (redF m c h)) Finset.univ hx hm)) (fun _ => pt (redM h) c fullShare (redW m c)) :=
  run_store c bufRed (redR h) (redM h).view.set (redW m c) _ (View.set_reshape _ _).symm (read_red m c h)

/-- Reducing a half of the device's rows. -/
theorem run_reduce (c : Dev nD) (h : Fin 2) :
    iprop(pt (partM (offOwn h c) (inb_own h c)) c fullShare (partW m c) ∗ (bigSepL sevens fun s => pt (rsM h s) c fullShare (rsW m c)) ∗ free (redM h) c)
      ⊢ runs c (reduce h c) (fun r => iprop(⌜r = redF m c h⌝ ∗ pt (partM (offOwn h c) (inb_own h c)) c fullShare (partW m c)
        ∗ (bigSepL sevens fun s => pt (rsM h s) c fullShare (rsW m c)) ∗ pt (redM h) c fullShare (redW m c))) := by
  unfold reduce
  show iprop(pt (partM (offOwn h c) (inb_own h c)) c fullShare (partW m c)
      ∗ (pt (rsM h 0) c fullShare (rsW m c) ∗ pt (rsM h 1) c fullShare (rsW m c) ∗ pt (rsM h 2) c fullShare (rsW m c) ∗ pt (rsM h 3) c fullShare (rsW m c)
        ∗ pt (rsM h 4) c fullShare (rsW m c) ∗ pt (rsM h 5) c fullShare (rsW m c) ∗ pt (rsM h 6) c fullShare (rsW m c)) ∗ free (redM h) c) ⊢
    runs c _ (fun r => iprop(⌜r = redF m c h⌝ ∗ pt (partM (offOwn h c) (inb_own h c)) c fullShare (partW m c)
      ∗ (pt (rsM h 0) c fullShare (rsW m c) ∗ pt (rsM h 1) c fullShare (rsW m c) ∗ pt (rsM h 2) c fullShare (rsW m c) ∗ pt (rsM h 3) c fullShare (rsW m c)
        ∗ pt (rsM h 4) c fullShare (rsW m c) ∗ pt (rsM h 5) c fullShare (rsW m c) ∗ pt (rsM h 6) c fullShare (rsW m c)) ∗ pt (redM h) c fullShare (redW m c)))
  iintro ⟨Ho, ⟨H0, H1, H2, H3, H4, H5, H6⟩, Hr⟩
  iapply (seq (load_own m c h)) $$ [Ho]; · iexact Ho
  iintro %o ⟨%ho, Ho⟩; subst ho
  iapply (seq (load_rs m c h 0)) $$ [H0]; · iexact H0
  iintro %s0 ⟨%hs, H0⟩; subst hs
  iapply (seq (load_rs m c h 1)) $$ [H1]; · iexact H1
  iintro %s1 ⟨%hs, H1⟩; subst hs
  iapply (seq (load_rs m c h 2)) $$ [H2]; · iexact H2
  iintro %s2 ⟨%hs, H2⟩; subst hs
  iapply (seq (load_rs m c h 3)) $$ [H3]; · iexact H3
  iintro %s3 ⟨%hs, H3⟩; subst hs
  iapply (seq (load_rs m c h 4)) $$ [H4]; · iexact H4
  iintro %s4 ⟨%hs, H4⟩; subst hs
  iapply (seq (load_rs m c h 5)) $$ [H5]; · iexact H5
  iintro %s5 ⟨%hs, H5⟩; subst hs
  iapply (seq (load_rs m c h 6)) $$ [H6]; · iexact H6
  iintro %s6 ⟨%hs, H6⟩; subst hs
  iapply (seq (any_red c h)) $$ [Hr]
  · iexact Hr
  iintro %_ Hr
  iapply (seq (put_red m c h)) $$ [Hr]
  · iexact Hr
  iintro %_ Hr
  iapply (done _ _)
  isplitr; · ipureintro; rfl
  isplitl [Ho]; · iexact Ho
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-! ## The result's pieces -/

/-- A rectangle of the result. -/
abbrev outR (off : Fin 2 → Nat) (inb : ∀ a, off a + S64x256.size a ≤ S512x512.size a) : Rect S512x512 := Rect.unit (s := S512x512) off S64x256.size inb

theorem any_out (c : Dev nD) (off : Fin 2 → Nat) (inb : ∀ a, off a + S64x256.size a ≤ S512x512.size a) {hl} :
    free (F := F) (outM off inb) c ⊢ runs c (Prog.lift (.load bufOut (outR off inb).toLoadRect hl)) (fun _ => free (outM off inb) c) :=
  run_load_any c bufOut (outR off inb) (outM off inb).view.set (Finset.Subset.refl _)
theorem put_out (c e : Dev nD) (h : Fin 2) (off : Fin 2 → Nat) (hoff : off = ![64 * e.val, 256 * h.val])
    (inb : ∀ a, off a + S64x256.size a ≤ S512x512.size a) (w : FVec F S64x256 .f32) (hw : outP m c e h = w) {hx hm} :
    free (outM off inb) c ⊢ runs c (Prog.lift (.store bufOut (outR off inb) w Finset.univ hx hm)) (fun _ => pt (outM off inb) c fullShare (outW m c)) :=
  run_store c bufOut (outR off inb) (outM off inb).view.set (outW m c) _ rfl ((read_out m c e h off hoff inb).trans hw)

/-- Putting a half of the device's own rows in the result. -/
theorem run_putOwn (c : Dev nD) (h : Fin 2) :
    free (outM (offRes h c) (inb_res h c)) c ⊢ runs c (putOwn h c (redF m c h)) (fun _ => pt (outM (offRes h c) (inb_res h c)) c fullShare (outW m c)) := by
  unfold putOwn
  iintro H
  iapply (seq (any_out c _ _)) $$ [H]
  · iexact H
  iintro %_ H
  iapply (last (put_out m c c h _ (offRes_eq h c) (inb_res h c) _ (outP_own m c h))) $$ [H]
  · iexact H
  iintro %_ H
  iexact H

theorem load_ag (c : Dev nD) (h : Fin 2) (s : Fin 7) {hl} : pt (agM h s) c fullShare (agW m c)
    ⊢ runs c (Prog.lift (.load bufAg (slotR h s).toLoadRect hl)) (fun v => iprop(⌜v = gotR m c h s⌝ ∗ pt (agM h s) c fullShare (agW m c))) :=
  run_load c bufAg (slotR h s) (agM h s).view.set fullShare (agW m c) (View.set_reshape _ _).ge

/-! ## The waits -/

/-- Waiting for another device's rows. -/
theorem step_agWait (c : Dev nD) (h : Fin 2) (s : Fin 7) :
    iprop(ctx m κ ∗ credit c (kX 3 h s) Nx ∗ atR c (kX 3 h s) ∗ ow c [])
      ⊢ runs c (Prog.lift (.waitDma2 (xSem cc0_scratch10 h s) (agM h s) (agM h s) (we_ag h s) (we_ag h s)))
        (fun _ => iprop(pt (agM h s) c fullShare (agW m c) ∗ zero c (kX 3 h s) ∗ ow c [])) :=
  step_wait m κ c (.inr (3, h, s)) 3 le_rfl [] (.nil _) _ (fun K => wpE_waitDma2_eq 𝒱₀ (c : Thread nD τ) none Set.univ K)
/-- Waiting on a scoped cell for what is known of it. -/
theorem step_own (c : Dev nD) (k : KI) (P : sProp 𝕄) (hP : pay m c (.inr k) 0 = P) (b : ℕ) (hb : lvK (some (.inr k)) ≤ b) (l : List (GSem nD τ sig × ℕ))
    (hl : Above b l) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (csem (.inr k)) (amt (.inr k)) K) :
    iprop(ctx m κ ∗ (credit c (.inr k) (amt (.inr k)) ∗ atR c (.inr k)) ∗ ow c l) ⊢ runs c (Prog.lift w) (fun _ => iprop((P ∗ zero c (.inr k)) ∗ ow c l)) := by
  subst hP
  iintro ⟨#Hc, ⟨Hcr, Ha⟩, HO⟩
  iapply (last (step_wait m κ c k b hb l hl w hw)) $$ [Hcr Ha HO]
  · isplitr; · iexact Hc
    isplitl [Hcr]; · iexact Hcr
    isplitl [Ha]; · iexact Ha
    iexact HO
  iintro %_ ⟨Hp, Hz, HO⟩
  isplitl [Hp Hz]
  · isplitl [Hp]; · iexact Hp
    iexact Hz
  iexact HO

/-- Waiting for a piece of another device's product. -/
theorem step_rsWait (c : Dev nD) (h : Fin 2) (s : Fin 7) (l : List (GSem nD τ sig × ℕ)) (hl : Above 2 l) :
    iprop(ctx m κ ∗ (credit c (kX 1 h s) Nx ∗ atR c (kX 1 h s)) ∗ ow c l)
      ⊢ runs c (rsWait h s) (fun _ => iprop((pt (rsM h s) c fullShare (rsW m c) ∗ zero c (kX 1 h s)) ∗ ow c l)) :=
  step_own m κ c (.inr (1, h, s)) _ rfl 2 le_rfl l hl (.waitDma2 (xSem cc0_scratch8 h s) (rsM h s) (rsM h s) (we_rs h s) (we_rs h s))
    (fun K => wpE_waitDma2_eq 𝒱₀ (c : Thread nD τ) none Set.univ K)
/-- Waiting until a piece of the product has left. -/
theorem step_rsDone (c : Dev nD) (h : Fin 2) (i : Fin 7) :
    iprop(ctx m κ ∗ (credit c (kX 0 h i) Nx ∗ atR c (kX 0 h i)) ∗ ow c [])
      ⊢ runs c (rsDone h c i) (fun _ => iprop((pt (partM (offSend h i c) (inb_send h i c)) c fullShare (partW m c) ∗ zero c (kX 0 h i)) ∗ ow c [])) :=
  step_own m κ c (.inr (0, h, i)) _ rfl 0 le_rfl [] (.nil _)
    (.waitDma2 (xSem cc0_scratch7 h i) (rsM h (opp i)) (partM (offSend h i c) (inb_send h i c)) (we_rs h (opp i)) (we_send h i c))
    (fun K => wpE_waitDma2_eq 𝒱₀ (c : Thread nD τ) none Set.univ K)
/-- Waiting until the reduced rows have left. -/
theorem step_agDone (c : Dev nD) (h : Fin 2) (i : Fin 7) :
    iprop(ctx m κ ∗ (credit c (kX 2 h i) Nx ∗ atR c (kX 2 h i)) ∗ ow c [])
      ⊢ runs c (agDone h i) (fun _ => iprop((pt (redM h) c (redQ (dist i)) (redW m c) ∗ zero c (kX 2 h i)) ∗ ow c [])) :=
  step_own m κ c (.inr (2, h, i)) _ rfl 0 le_rfl [] (.nil _) (.waitDma2 (xSem cc0_scratch9 h i) (agM h (opp i)) (redM h) (we_ag h (opp i)) (we_red h))
    (fun K => wpE_waitDma2_eq 𝒱₀ (c : Thread nD τ) none Set.univ K)

/-- Receiving another device's rows and putting them in the result. -/
theorem step_gather (c : Dev nD) (h : Fin 2) (s : Fin 7) :
    iprop(ctx m κ ∗ ((credit c (kX 3 h s) Nx ∗ atR c (kX 3 h s)) ∗ free (outM (offGot h s c) (inb_got h s c)) c) ∗ ow c [])
      ⊢ runs c (gather h c s) (fun _ => iprop((pt (agM h s) c fullShare (agW m c) ∗ zero c (kX 3 h s)
        ∗ pt (outM (offGot h s c) (inb_got h s c)) c fullShare (outW m c)) ∗ ow c [])) := by
  unfold gather
  iintro ⟨#Hc, ⟨⟨Hcr, Ha⟩, Ho⟩, HO⟩
  iapply (seq (step_agWait m κ c h s)) $$ [Hcr Ha HO]
  · isplitr; · iexact Hc
    isplitl [Hcr]; · iexact Hcr
    isplitl [Ha]; · iexact Ha
    iexact HO
  iintro %_ ⟨Hp, Hz, HO⟩
  iapply (seq (load_ag m c h s)) $$ [Hp]; · iexact Hp
  iintro %v ⟨%hv, Hp⟩; subst hv
  iapply (seq (any_out c _ _)) $$ [Ho]
  · iexact Ho
  iintro %_ Ho
  iapply (last (put_out m c (c + dist s) h _ (offGot_eq h s c) (inb_got h s c) _ (outP_got m c h s))) $$ [Ho]
  · iexact Ho
  iintro %_ Ho
  isplitr [HO]
  · isplitl [Hp]; · iexact Hp
    isplitl [Hz]; · iexact Hz
    iexact Ho
  iexact HO

end Cert.KernelIdeal.Proof

end

end
-- ==== Proof.Body.lean ====
module

public import proofs.«01_k».proof.Proof.Phases

/-! # The run of a device's body

From the buffers, the tokens and the debts a device starts with to its result, its buffers and its counters at zero. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

theorem zip {I : Type} (l : List I) (Φ Ψ : I → sProp 𝕄) : iprop(bigSepL l Φ ∗ bigSepL l Ψ) ⊢ bigSepL l (fun i => iprop(Φ i ∗ Ψ i)) :=
  Entails.of_eq (bigSepL_sep Φ Ψ l).symm
theorem unzip {I : Type} (l : List I) (Φ Ψ : I → sProp 𝕄) : bigSepL l (fun i => iprop(Φ i ∗ Ψ i)) ⊢ iprop(bigSepL l Φ ∗ bigSepL l Ψ) :=
  Entails.of_eq (bigSepL_sep Φ Ψ l)
/-- A listed family, member by member. -/
theorem each {I : Type} {Φ Ψ : I → sProp 𝕄} (h : ∀ i, Φ i ⊢ Ψ i) : ∀ l : List I, bigSepL l Φ ⊢ bigSepL l Ψ
  | [] => BI.Entails.refl _
  | i :: l => by
    rw [bigSepL_two, bigSepL_two]
    iintro ⟨H, Hs⟩
    isplitl [H]; · iapply (h i); iexact H
    iapply (each h l); iexact Hs

/-- A family over the seven places. -/
abbrev at7 (Φ : Fin 7 → sProp 𝕄) : sProp 𝕄 := bigSepL sevens Φ

/-- A family over a device's own cells. -/
theorem fam_own (Φ : KI → sProp 𝕄) : bigSep Finset.univ Φ = iprop((bigSepL eights fun t => iprop(Φ (.inl (0, t)) ∗ Φ (.inl (1, t))))
    ∗ (at7 (fun i => Φ (.inr (0, 0, i))) ∗ at7 (fun i => Φ (.inr (0, 1, i)))) ∗ (at7 (fun i => Φ (.inr (1, 0, i))) ∗ at7 (fun i => Φ (.inr (1, 1, i))))
    ∗ (at7 (fun i => Φ (.inr (2, 0, i))) ∗ at7 (fun i => Φ (.inr (2, 1, i)))) ∗ (at7 (fun i => Φ (.inr (3, 0, i))) ∗ at7 (fun i => Φ (.inr (3, 1, i))))) := by
  rw [bigSep_univ_sum, fam_in, bigSep_univ_prod, bigSep_univ_eq_bigSepL (I := Fin 4) [0, 1, 2, 3] (by decide) (by decide)]
  rw [bigSepL_congr fun w : Fin 4 => fam_slots fun k => Φ (.inr (w, k))]
  rfl

/-- A family over places that holds anything. -/
theorem to_free {sp : Space} {s : Shape} {e : EltTy} {I : Type} (l : List I) (M : I → Memref sig .tc sp s e) (c : I → Dev nD)
    (f : ∀ i, Buf (Elt F) ((M i).view.loc (c i : Thread nD τ))) :
    bigSepL l (fun i => pt (M i) (c i) fullShare (f i)) ⊢ (bigSepL l fun i => free (M i) (c i) : sProp 𝕄) :=
  each (fun i => by unfold free; iintro H; iexists (f i); iexact H) l

/-- A buffer of a device, holding anything. -/
abbrev some' {sp : Space} {s : Shape} {e : EltTy} (M : Memref sig .tc sp s e) (c : Dev nD) : sProp 𝕄 :=
  iprop(∃ f : Buf (Elt F) (M.view.loc (c : Thread nD τ)), (M.view.loc (c : Thread nD τ) ↦{fullShare} f))

theorem open_blk (b : Fin 2) (c : Dev nD) : some' (F := F) (bufInV b) c ⊢ bigSepL eights fun t => free (blkM b t) c := by
  iintro ⟨%f, H⟩
  ihave H := (Entails.of_eq (split_blk b c f)) $$ H
  iapply (to_free eights (fun t => blkM b t) (fun _ => c) (fun _ => f)); iexact H

theorem open_slots (c : Dev nD) : iprop(some' (F := F) bufRs c ∗ some' (F := F) bufAg c) ⊢ at7 (slots c) := by
  iintro ⟨⟨%f, Hr⟩, ⟨%g, Ha⟩⟩
  ihave Hr := (Entails.of_eq (split_rs c f)) $$ Hr
  ihave Ha := (Entails.of_eq (split_ag c g)) $$ Ha
  icases Hr with ⟨Hr0, Hr1⟩
  icases Ha with ⟨Ha0, Ha1⟩
  unfold slots
  iapply (zip _ _ _)
  isplitl [Hr0 Hr1]
  · iapply (zip _ _ _)
    isplitl [Hr0]
    · iapply (to_free sevens (fun s => rsM 0 s) (fun _ => c) (fun _ => f)); iexact Hr0
    · iapply (to_free sevens (fun s => rsM 1 s) (fun _ => c) (fun _ => f)); iexact Hr1
  · iapply (zip _ _ _)
    isplitl [Ha0]
    · iapply (to_free sevens (fun s => agM 0 s) (fun _ => c) (fun _ => g)); iexact Ha0
    · iapply (to_free sevens (fun s => agM 1 s) (fun _ => c) (fun _ => g)); iexact Ha1

theorem open_red (c : Dev nD) : some' (F := F) bufRed c ⊢ iprop(free (redM 0) c ∗ free (redM 1) c) := by
  iintro ⟨%f, H⟩
  ihave H := (Entails.of_eq (split_red c f)) $$ H
  icases H with ⟨H0, H1⟩
  unfold free
  isplitl [H0]
  · iexists f; iexact H0
  · iexists f; iexact H1

theorem open_out (c : Dev nD) : some' (F := F) bufOut c
    ⊢ iprop((free (outM (offRes 0 c) (inb_res 0 c)) c ∗ at7 fun s => free (outM (offGot 0 s c) (inb_got 0 s c)) c)
        ∗ free (outM (offRes 1 c) (inb_res 1 c)) c ∗ at7 fun s => free (outM (offGot 1 s c) (inb_got 1 s c)) c) := by
  iintro ⟨%f, H⟩
  ihave H := (Entails.of_eq (split_out c f)) $$ H
  icases H with ⟨⟨H0, G0⟩, H1, G1⟩
  isplitl [H0 G0]
  · isplitl [H0]
    · unfold free; iexists f; iexact H0
    · iapply (to_free sevens (fun s => outM (offGot 0 s c) (inb_got 0 s c)) (fun _ => c) (fun _ => f)); iexact G0
  · isplitl [H1]
    · unfold free; iexists f; iexact H1
    · iapply (to_free sevens (fun s => outM (offGot 1 s c) (inb_got 1 s c)) (fun _ => c) (fun _ => f)); iexact G1

variable (m : (ℓ : Loc nD τ sig) → Buf (Elt F) ℓ) (κ : Dev nD × KK → ℕ)

/-! ## The loops -/

/-- What starting the copy of block `t` of factor `b` takes. -/
def fetchPre (c : Dev nD) (b : Fin 2) (t : Fin 8) : sProp 𝕄 :=
  iprop(tok c (kIn b t) 0 ∗ free (F := F) (blkM b t) c ∗ pt (colM b t) c fullShare (inX m b c))

/-- All copies started. -/
theorem run_fetch (c : Dev nD) : iprop(ctx m κ ∗ bigSepL eights fun t => iprop(fetchPre m c 0 t ∗ fetchPre m c 1 t))
    ⊢ runs c (loop fetch eights) (fun _ => bigSepL eights fun t => iprop(credit (F := F) c (kIn 0 t) Nin ∗ credit c (kIn 1 t) Nin)) := by
  iintro ⟨#Hc, H⟩
  iapply (last (run_loop c fetch (ctx m κ) (fun t => iprop(fetchPre m c 0 t ∗ fetchPre m c 1 t))
    (fun t => iprop(credit (F := F) c (kIn 0 t) Nin ∗ credit c (kIn 1 t) Nin)) (fun _ => iprop(emp)) (fun t _ => by
      unfold fetch fetchPre
      iintro ⟨#Hc, ⟨H0, H1⟩, -⟩
      iapply (seq (step_fetch m κ c 0 t)) $$ [H0]
      · isplitr; · iexact Hc
        iexact H0
      iintro %_ H0
      iapply (last (step_fetch m κ c 1 t)) $$ [H1]
      · isplitr; · iexact Hc
        iexact H1
      iintro %_ H1
      isplitl [H0 H1]
      · isplitl [H0]; · iexact H0
        iexact H1
      iempintro) eights)) $$ [H]
  · isplitr; · iexact Hc
    isplitl [H]; · iexact H
    iempintro
  iintro %_ ⟨H, -⟩
  iexact H

/-- All the others signalled. -/
theorem run_sigs (c : Dev nD) : iprop(ctx m κ ∗ (at7 fun i => iprop(tok (c + dist i) kBar (opp i) ∗ slots (F := F) c i)) ∗ ow c (owAll c))
    ⊢ runs c (loop (sig1 c) sevens) (fun _ => ow c (owRs c)) := by
  iintro H
  iapply (last (run_loop c (sig1 c) (ctx m κ) (fun i => iprop(tok (c + dist i) kBar (opp i) ∗ slots (F := F) c i)) (fun _ => iprop(emp))
    (fun l => ow c (l.map (dBar c) ++ owRs c)) (fun i l => step_sig m κ c i _) sevens)) $$ [H]
  · iexact H
  iintro %_ ⟨-, H⟩
  iexact H

/-- What sending a piece of the product takes. -/
def rsPre (c : Dev nD) (h : Fin 2) (i : Fin 7) : sProp 𝕄 :=
  iprop(tok c (kX 0 h i) 0 ∗ tok (c + dist i) (kX 1 h (opp i)) 0 ∗ free (F := F) (rsM h (opp i)) (c + dist i)
    ∗ pt (partM (offSend h i c) (inb_send h i c)) c fullShare (partW m c))

/-- A half of the product's pieces sent. -/
theorem run_rsSend (c : Dev nD) (h : Fin 2) (l' : List (GSem nD τ sig × ℕ)) :
    iprop(ctx m κ ∗ at7 (rsPre m c h) ∗ ow c (sevens.map (dX 1 h c) ++ l'))
      ⊢ runs c (loop (rsSend h c) sevens) (fun _ => iprop((at7 fun i => credit (F := F) c (kX 0 h i) Nx) ∗ ow c l')) :=
  run_loop c (rsSend h c) (ctx m κ) (rsPre m c h) (fun i => credit (F := F) c (kX 0 h i) Nx)
    (fun l => ow c (l.map (dX 1 h c) ++ l')) (fun i l => step_rsSend m κ c h i _) sevens

/-- What sending the reduced rows takes. -/
def agPre (c : Dev nD) (h : Fin 2) (i : Fin 7) : sProp 𝕄 :=
  iprop(tok c (kX 2 h i) 0 ∗ tok (c + dist i) (kX 3 h (opp i)) 0 ∗ free (F := F) (agM h (opp i)) (c + dist i)
    ∗ pt (redM h) c (redQ (dist i)) (redW m c))

/-- A half of the reduced rows sent. -/
theorem run_agSend (c : Dev nD) (h : Fin 2) (l' : List (GSem nD τ sig × ℕ)) :
    iprop(ctx m κ ∗ at7 (agPre m c h) ∗ ow c (sevens.map (dX 3 h c) ++ l'))
      ⊢ runs c (loop (agSend h c) sevens) (fun _ => iprop((at7 fun i => credit (F := F) c (kX 2 h i) Nx) ∗ ow c l')) :=
  run_loop c (agSend h c) (ctx m κ) (agPre m c h) (fun i => credit (F := F) c (kX 2 h i) Nx)
    (fun l => ow c (l.map (dX 3 h c) ++ l')) (fun i l => step_agSend m κ c h i _) sevens

/-- A half of the others' pieces landed. -/
theorem run_rsWait (c : Dev nD) (h : Fin 2) (l' : List (GSem nD τ sig × ℕ)) (hl : Above 2 l') :
    iprop(ctx m κ ∗ (at7 fun s => iprop(credit (F := F) c (kX 1 h s) Nx ∗ atR c (kX 1 h s))) ∗ ow c l')
      ⊢ runs c (loop (rsWait h) sevens) (fun _ => iprop((at7 fun s => iprop(pt (rsM h s) c fullShare (rsW m c) ∗ zero c (kX 1 h s))) ∗ ow c l')) :=
  run_loop c (rsWait h) (ctx m κ) _ _ (fun _ => ow c l') (fun s _ => step_rsWait m κ c h s l' hl) sevens

/-- A half of the others' rows put in the result. -/
theorem run_gather (c : Dev nD) (h : Fin 2) :
    iprop(ctx m κ ∗ (at7 fun s => iprop((credit (F := F) c (kX 3 h s) Nx ∗ atR c (kX 3 h s)) ∗ free (outM (offGot h s c) (inb_got h s c)) c)) ∗ ow c [])
      ⊢ runs c (loop (gather h c) sevens) (fun _ => iprop((at7 fun s => iprop(pt (agM h s) c fullShare (agW m c) ∗ zero c (kX 3 h s)
          ∗ pt (outM (offGot h s c) (inb_got h s c)) c fullShare (outW m c))) ∗ ow c [])) :=
  run_loop c (gather h c) (ctx m κ) _ _ (fun _ => ow c []) (fun s _ => step_gather m κ c h s) sevens

/-- A half of the product's pieces have left. -/
theorem run_rsDone (c : Dev nD) (h : Fin 2) :
    iprop(ctx m κ ∗ (at7 fun i => iprop(credit (F := F) c (kX 0 h i) Nx ∗ atR c (kX 0 h i))) ∗ ow c [])
      ⊢ runs c (loop (rsDone h c) sevens) (fun _ => iprop((at7 fun i => iprop(pt (partM (offSend h i c) (inb_send h i c)) c fullShare (partW m c) ∗ zero c (kX 0 h i))) ∗ ow c [])) :=
  run_loop c (rsDone h c) (ctx m κ) _ _ (fun _ => ow c []) (fun i _ => step_rsDone m κ c h i) sevens

/-- A half of the reduced rows have left. -/
theorem run_agDone (c : Dev nD) (h : Fin 2) :
    iprop(ctx m κ ∗ (at7 fun i => iprop(credit (F := F) c (kX 2 h i) Nx ∗ atR c (kX 2 h i))) ∗ ow c [])
      ⊢ runs c (loop (agDone h) sevens) (fun _ => iprop((at7 fun i => iprop(pt (redM h) c (redQ (dist i)) (redW m c) ∗ zero c (kX 2 h i))) ∗ ow c [])) :=
  run_loop c (agDone h) (ctx m κ) _ _ (fun _ => ow c []) (fun i _ => step_agDone m κ c h i) sevens

/-! ## One half of the exchange -/

/-- What a half of the exchange takes besides the debts. -/
def halfPre (c : Dev nD) (h : Fin 2) : sProp 𝕄 :=
  iprop((at7 fun s => iprop(credit (F := F) c (kX 1 h s) Nx ∗ atR c (kX 1 h s)))
    ∗ pt (partM (offOwn h c) (inb_own h c)) c fullShare (partW m c) ∗ free (redM h) c
    ∗ (at7 fun i => tok (F := F) c (kX 2 h i) 0) ∗ (at7 fun i => tok (F := F) (c + dist i) (kX 3 h (opp i)) 0)
    ∗ (at7 fun i => free (F := F) (agM h (opp i)) (c + dist i)))

/-- What a half of the exchange leaves. -/
def halfPost (c : Dev nD) (h : Fin 2) : sProp 𝕄 :=
  iprop((at7 fun s => pt (rsM h s) c fullShare (rsW m c)) ∗ (at7 fun s => zero (F := F) c (kX 1 h s))
    ∗ pt (partM (offOwn h c) (inb_own h c)) c fullShare (partW m c) ∗ pt (redM h) c (redQ 0) (redW m c)
    ∗ (at7 fun i => credit (F := F) c (kX 2 h i) Nx))

/-- A half of the exchange at the head of a program: the pieces received, reduced, and the rows sent. -/
theorem run_half (c : Dev nD) (h : Fin 2) (l' : List (GSem nD τ sig × ℕ)) (hl : Above 2 l') {β : Type} (k : FVec F S64x256 .f32 → P F β) (Q : β → sProp 𝕄) :
    iprop(ctx m κ ∗ halfPre m c h ∗ ow c (sevens.map (dX 3 h c) ++ l'))
      ⊢ iprop((halfPost m c h ∗ ow c l' -∗ runs c (k (redF m c h)) Q) -∗ runs c (do
        loop (rsWait h) sevens
        let v ← reduce h c
        loop (agSend h c) sevens
        k v) Q) := by
  unfold halfPre halfPost
  iintro ⟨#Hc, ⟨Hw, Hown, Hred, Ht, Ht', Hag⟩, HO⟩ Hk
  iapply (seq (run_rsWait m κ c h _ ((above_ag h c sevens).append hl))) $$ [Hw HO]
  · isplitr; · iexact Hc
    isplitl [Hw]; · iexact Hw
    iexact HO
  iintro %_ ⟨Hw, HO⟩
  ihave Hw := (unzip _ _ _) $$ Hw
  icases Hw with ⟨Hrs, Hz⟩
  iapply (seq (run_reduce m c h)) $$ [Hown Hrs Hred]
  · isplitl [Hown]; · iexact Hown
    isplitl [Hrs]; · iexact Hrs
    iexact Hred
  iintro %v ⟨%hv, Hown, Hrs, Hred⟩
  subst hv
  ihave Hred := (Entails.of_eq (split_share c h (redW m c))) $$ Hred
  icases Hred with ⟨Hr0, Hred⟩
  iapply (seq (run_agSend m κ c h l')) $$ [Ht Ht' Hag Hred HO]
  · isplitr; · iexact Hc
    isplitr [HO]; swap; · iexact HO
    unfold agPre
    iapply (zip _ _ _)
    isplitl [Ht]; · iexact Ht
    iapply (zip _ _ _)
    isplitl [Ht']; · iexact Ht'
    iapply (zip _ _ _)
    isplitl [Hag]; · iexact Hag
    iexact Hred
  iintro %_ ⟨Hcr, HO⟩
  iapply Hk
  isplitr [HO]; swap; · iexact HO
  isplitl [Hrs]; · iexact Hrs
  isplitl [Hz]; · iexact Hz
  isplitl [Hown]; · iexact Hown
  isplitl [Hr0]; · iexact Hr0
  iexact Hcr

/-- The exchange, up to the device's own rows of the result. -/
theorem run_exchange (c : Dev nD) :
    iprop(ctx m κ ∗ halfPre m c 0 ∗ halfPre m c 1 ∗ free (outM (offRes 0 c) (inb_res 0 c)) c ∗ free (outM (offRes 1 c) (inb_res 1 c)) c ∗ ow c (owAg c))
      ⊢ runs c (exchange c) (fun _ => iprop(halfPost m c 0 ∗ halfPost m c 1 ∗ pt (outM (offRes 0 c) (inb_res 0 c)) c fullShare (outW m c)
        ∗ pt (outM (offRes 1 c) (inb_res 1 c)) c fullShare (outW m c) ∗ ow c [])) := by
  unfold exchange
  iintro ⟨#Hc, H0, H1, Ho0, Ho1, HO⟩
  iapply (run_half m κ c 0 (sevens.map (dX 3 1 c) ++ []) ((above_ag 1 c sevens).append (.nil _)) _ _) $$ [H0 HO]
  · isplitr; · iexact Hc
    isplitl [H0]; · iexact H0
    iexact HO
  iintro ⟨H0, HO⟩
  iapply (run_half m κ c 1 [] (.nil _) _ _) $$ [H1 HO]
  · isplitr; · iexact Hc
    isplitl [H1]; · iexact H1
    iexact HO
  iintro ⟨H1, HO⟩
  iapply (seq (run_putOwn m c 0)) $$ [Ho0]; · iexact Ho0
  iintro %_ Ho0
  iapply (last (run_putOwn m c 1)) $$ [Ho1]; · iexact Ho1
  iintro %_ Ho1
  isplitl [H0]; · iexact H0
  isplitl [H1]; · iexact H1
  isplitl [Ho0]; · iexact Ho0
  isplitl [Ho1]; · iexact Ho1
  iexact HO

end Cert.KernelIdeal.Proof

end

end
-- ==== Proof.Whole.lean ====
module

public import proofs.«01_k».proof.Proof.Body

/-! # The whole body

What a device starts with, what it ends with, and the run between. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The duties device `c` performs: its copies' and its sends', the landings' of what it sends, and the barriers'. -/
def toksOf (c : Dev nD) : sProp 𝕄 :=
  iprop((at7 fun i => tok (F := F) (c + dist i) kBar (opp i))
    ∗ (bigSepL eights fun t => iprop(tok (F := F) c (kIn 0 t) 0 ∗ tok c (kIn 1 t) 0))
    ∗ ((at7 fun i => tok (F := F) c (kX 0 0 i) 0) ∗ (at7 fun i => tok (F := F) c (kX 0 1 i) 0))
    ∗ ((at7 fun i => tok (F := F) (c + dist i) (kX 1 0 (opp i)) 0) ∗ (at7 fun i => tok (F := F) (c + dist i) (kX 1 1 (opp i)) 0))
    ∗ ((at7 fun i => tok (F := F) c (kX 2 0 i) 0) ∗ (at7 fun i => tok (F := F) c (kX 2 1 i) 0))
    ∗ ((at7 fun i => tok (F := F) (c + dist i) (kX 3 0 (opp i)) 0) ∗ (at7 fun i => tok (F := F) (c + dist i) (kX 3 1 (opp i)) 0)))

/-- The device's place at each of its cells. -/
def atAll (c : Dev nD) : sProp 𝕄 := iprop(atR (F := F) c kBar ∗ bigSep Finset.univ fun k : KI => atR (F := F) c (.inr k))
/-- The device's counters, zero again. -/
def zeroAll (c : Dev nD) : sProp 𝕄 := iprop(zero (F := F) c kBar ∗ bigSep Finset.univ fun k : KI => zero (F := F) c (.inr k))
/-- What a device may wait for of the others. -/
def credAll (c : Dev nD) : sProp 𝕄 :=
  iprop(credit (F := F) c kBar 7 ∗ ((at7 fun s => credit (F := F) c (kX 1 0 s) Nx) ∗ (at7 fun s => credit (F := F) c (kX 1 1 s) Nx))
    ∗ ((at7 fun s => credit (F := F) c (kX 3 0 s) Nx) ∗ (at7 fun s => credit (F := F) c (kX 3 1 s) Nx)))
/-- The scratch buffers, holding anything. -/
def scratch (c : Dev nD) : sProp 𝕄 :=
  iprop(some' (F := F) bufDyV c ∗ some' (F := F) bufWV c ∗ some' (F := F) bufPart c ∗ some' (F := F) bufRed c ∗ some' (F := F) bufRs c ∗ some' (F := F) bufAg c)

variable (m : (ℓ : Loc nD τ sig) → Buf (Elt F) ℓ) (κ : Dev nD × KK → ℕ)

/-- The factors in main memory. -/
def ins (c : Dev nD) : sProp 𝕄 :=
  iprop((bufDy.view.loc (c : Thread nD τ) ↦{fullShare} (inX m 0 c)) ∗ (bufW.view.loc (c : Thread nD τ) ↦{fullShare} (inX m 1 c)))

/-- What the body starts with. -/
def bodyStart (c : Dev nD) : sProp 𝕄 :=
  iprop(toksOf (F := F) c ∗ atAll (F := F) c ∗ credAll (F := F) c ∗ scratch (F := F) c ∗ ins m c ∗ some' (F := F) bufOut c ∗ ow c (owAll c))

/-- What the body ends with. -/
def bodyEnd (c : Dev nD) : sProp 𝕄 :=
  iprop(zeroAll (F := F) c ∗ scratch (F := F) c ∗ ins m c ∗ (bufOut.view.loc (c : Thread nD τ) ↦{fullShare} (outW m c)) ∗ ow c [])

/-- The copies' windows, whole again. -/
theorem close_in (c : Dev nD) : bigSepL eights (inPost m c)
    ⊢ iprop(some' (F := F) bufDyV c ∗ some' (F := F) bufWV c ∗ ins m c ∗ bigSepL eights fun t => iprop(zero (F := F) c (kIn 0 t) ∗ zero c (kIn 1 t))) := by
  have e : inPost m c = fun t => iprop(((pt (blkM 0 t) c fullShare (inW m 0 c) ∗ pt (colM 0 t) c fullShare (inX m 0 c)) ∗ zero c (kIn 0 t))
      ∗ (pt (blkM 1 t) c fullShare (inW m 1 c) ∗ pt (colM 1 t) c fullShare (inX m 1 c)) ∗ zero c (kIn 1 t)) := rfl
  rw [e]
  iintro H
  ihave H := (unzip _ _ _) $$ H
  icases H with ⟨H0, H1⟩
  ihave H0 := (unzip _ _ _) $$ H0
  icases H0 with ⟨H0, Z0⟩
  ihave H0 := (unzip _ _ _) $$ H0
  icases H0 with ⟨B0, I0⟩
  ihave H1 := (unzip _ _ _) $$ H1
  icases H1 with ⟨H1, Z1⟩
  ihave H1 := (unzip _ _ _) $$ H1
  icases H1 with ⟨B1, I1⟩
  ihave B0 := (Entails.of_eq (split_blk 0 c (inW m 0 c)).symm) $$ B0
  ihave I0 := (Entails.of_eq (split_col 0 c (inX m 0 c)).symm) $$ I0
  ihave B1 := (Entails.of_eq (split_blk 1 c (inW m 1 c)).symm) $$ B1
  ihave I1 := (Entails.of_eq (split_col 1 c (inX m 1 c)).symm) $$ I1
  isplitl [B0]; · iexists _; iexact B0
  isplitl [B1]; · iexists _; iexact B1
  isplitl [I0 I1]
  · unfold ins
    isplitl [I0]; · iexact I0
    iexact I1
  iapply (zip _ _ _)
  isplitl [Z0]; · iexact Z0
  iexact Z1

/-- The run of the body. -/
theorem run_body (c : Dev nD) : iprop(ctx m κ ∗ bodyStart m c) ⊢ runs c (myBody (F := F)) (fun _ => bodyEnd m c) := by
  unfold bodyStart toksOf atAll credAll scratch ins myBody
  simp only [Prog.lift, wp_deviceId, Prog.bind_op, Prog.bind_ret]
  rw [fam_own]
  iintro ⟨#Hc, ⟨Tbar, Tin, ⟨Ts00, Ts01⟩, ⟨Tr00, Tr01⟩, ⟨Ts10, Ts11⟩, Tr10, Tr11⟩,
    ⟨Abar, Ain, ⟨A00, A01⟩, ⟨A10, A11⟩, ⟨A20, A21⟩, A30, A31⟩, ⟨Cbar, ⟨C10, C11⟩, C30, C31⟩,
    ⟨Bdy, Bw, Bpart, Bred, Brs, Bag⟩, ⟨I0, I1⟩, Bout, HO⟩
  -- the copies
  iapply (seq (run_fetch m κ c)) $$ [Tin Bdy Bw I0 I1]
  · isplitr; · iexact Hc
    ihave Tin := (unzip _ _ _) $$ Tin
    icases Tin with ⟨T0, T1⟩
    ihave B0 := (open_blk 0 c) $$ Bdy
    ihave B1 := (open_blk 1 c) $$ Bw
    ihave I0 := (Entails.of_eq (split_col 0 c (inX m 0 c))) $$ I0
    ihave I1 := (Entails.of_eq (split_col 1 c (inX m 1 c))) $$ I1
    unfold fetchPre
    iapply (zip _ _ _)
    isplitl [T0 B0 I0]
    · iapply (zip _ _ _)
      isplitl [T0]; · iexact T0
      iapply (zip _ _ _)
      isplitl [B0]; · iexact B0
      iexact I0
    · iapply (zip _ _ _)
      isplitl [T1]; · iexact T1
      iapply (zip _ _ _)
      isplitl [B1]; · iexact B1
      iexact I1
  iintro %_ Cin
  -- the signals
  iapply (seq (run_sigs m κ c)) $$ [Tbar Brs Bag HO]
  · isplitr; · iexact Hc
    isplitr [HO]; swap; · iexact HO
    iapply (zip _ _ _)
    isplitl [Tbar]; · iexact Tbar
    iapply (open_slots c)
    isplitl [Brs]; · iexact Brs
    iexact Bag
  iintro %_ HO
  -- the product
  iapply (seq (run_product m κ c (owRs c) ((above_owRs c).mono (by decide)))) $$ [Cin Ain Bpart HO]
  · isplitr; · iexact Hc
    isplitl [Cin Ain]
    · ihave Cin := (unzip _ _ _) $$ Cin
      icases Cin with ⟨C0, C1⟩
      ihave Ain := (unzip _ _ _) $$ Ain
      icases Ain with ⟨A0, A1⟩
      unfold inPre
      iapply (zip _ _ _)
      isplitl [C0 A0]
      · iapply (zip _ _ _)
        isplitl [C0]; · iexact C0
        iexact A0
      · iapply (zip _ _ _)
        isplitl [C1]; · iexact C1
        iexact A1
    isplitl [Bpart]; · iexact Bpart
    iexact HO
  iintro %_ ⟨Hin, Hpart, HO⟩
  ihave Hpart := (Entails.of_eq (split_part c (partW m c))) $$ Hpart
  icases Hpart with ⟨⟨P0, Ps0⟩, P1, Ps1⟩
  -- the barrier
  iapply (seq (step_bar m κ c (owRs c) (above_owRs c))) $$ [Cbar Abar HO]
  · isplitr; · iexact Hc
    isplitl [Cbar]; · iexact Cbar
    isplitl [Abar]; · iexact Abar
    iexact HO
  iintro %_ ⟨Hsl, Zbar, HO⟩
  ihave Hsl := (show (at7 fun i => slots (F := F) (c + dist i) (opp i)) ⊢ iprop(((at7 fun i => free (F := F) (rsM 0 (opp i)) (c + dist i)) ∗ (at7 fun i => free (F := F) (rsM 1 (opp i)) (c + dist i)))
    ∗ (at7 fun i => free (F := F) (agM 0 (opp i)) (c + dist i)) ∗ (at7 fun i => free (F := F) (agM 1 (opp i)) (c + dist i))) from by
      unfold slots
      iintro H
      ihave H := (unzip _ _ _) $$ H
      icases H with ⟨Hr, Ha⟩
      isplitl [Hr]
      · iapply (unzip _ _ _); iexact Hr
      · iapply (unzip _ _ _); iexact Ha) $$ Hsl
  icases Hsl with ⟨⟨Fr0, Fr1⟩, Fa0, Fa1⟩
  -- the product's pieces sent
  iapply (seq (run_rsSend m κ c 0 (sevens.map (dX 1 1 c) ++ owAg c))) $$ [Ts00 Tr00 Fr0 Ps0 HO]
  · isplitr; · iexact Hc
    isplitr [HO]; swap; · iexact HO
    unfold rsPre
    iapply (zip _ _ _)
    isplitl [Ts00]; · iexact Ts00
    iapply (zip _ _ _)
    isplitl [Tr00]; · iexact Tr00
    iapply (zip _ _ _)
    isplitl [Fr0]; · iexact Fr0
    iexact Ps0
  iintro %_ ⟨C00, HO⟩
  iapply (seq (run_rsSend m κ c 1 (owAg c))) $$ [Ts01 Tr01 Fr1 Ps1 HO]
  · isplitr; · iexact Hc
    isplitr [HO]; swap; · iexact HO
    unfold rsPre
    iapply (zip _ _ _)
    isplitl [Ts01]; · iexact Ts01
    iapply (zip _ _ _)
    isplitl [Tr01]; · iexact Tr01
    iapply (zip _ _ _)
    isplitl [Fr1]; · iexact Fr1
    iexact Ps1
  iintro %_ ⟨C01, HO⟩
  -- the exchange
  ihave Bred := (open_red c) $$ Bred
  icases Bred with ⟨R0, R1⟩
  ihave Bout := (open_out c) $$ Bout
  icases Bout with ⟨⟨O0, Og0⟩, O1, Og1⟩
  iapply (seq (run_exchange m κ c)) $$ [C10 A10 P0 R0 Ts10 Tr10 Fa0 C11 A11 P1 R1 Ts11 Tr11 Fa1 O0 O1 HO]
  · isplitr; · iexact Hc
    unfold halfPre
    isplitl [C10 A10 P0 R0 Ts10 Tr10 Fa0]
    · isplitl [C10 A10]
      · iapply (zip _ _ _)
        isplitl [C10]; · iexact C10
        iexact A10
      isplitl [P0]; · iexact P0
      isplitl [R0]; · iexact R0
      isplitl [Ts10]; · iexact Ts10
      isplitl [Tr10]; · iexact Tr10
      iexact Fa0
    isplitl [C11 A11 P1 R1 Ts11 Tr11 Fa1]
    · isplitl [C11 A11]
      · iapply (zip _ _ _)
        isplitl [C11]; · iexact C11
        iexact A11
      isplitl [P1]; · iexact P1
      isplitl [R1]; · iexact R1
      isplitl [Ts11]; · iexact Ts11
      isplitl [Tr11]; · iexact Tr11
      iexact Fa1
    isplitl [O0]; · iexact O0
    isplitl [O1]; · iexact O1
    iexact HO
  unfold halfPost
  iintro %_ ⟨⟨S0, Z10, P0, R0, C20⟩, ⟨S1, Z11, P1, R1, C21⟩, O0, O1, HO⟩
  -- the others' rows
  iapply (seq (run_gather m κ c 0)) $$ [C30 A30 Og0 HO]
  · isplitr; · iexact Hc
    isplitr [HO]; swap; · iexact HO
    iapply (zip _ _ _)
    isplitr [Og0]; swap; · iexact Og0
    iapply (zip _ _ _)
    isplitl [C30]; · iexact C30
    iexact A30
  iintro %_ ⟨H, HO⟩
  ihave H := (unzip _ _ _) $$ H
  icases H with ⟨G0, H⟩
  ihave H := (unzip _ _ _) $$ H
  icases H with ⟨Z30, Og0⟩
  iapply (seq (run_gather m κ c 1)) $$ [C31 A31 Og1 HO]
  · isplitr; · iexact Hc
    isplitr [HO]; swap; · iexact HO
    iapply (zip _ _ _)
    isplitr [Og1]; swap; · iexact Og1
    iapply (zip _ _ _)
    isplitl [C31]; · iexact C31
    iexact A31
  iintro %_ ⟨H, HO⟩
  ihave H := (unzip _ _ _) $$ H
  icases H with ⟨G1, H⟩
  ihave H := (unzip _ _ _) $$ H
  icases H with ⟨Z31, Og1⟩
  -- the sends have left
  iapply (seq (run_rsDone m κ c 0)) $$ [C00 A00 HO]
  · isplitr; · iexact Hc
    isplitr [HO]; swap; · iexact HO
    iapply (zip _ _ _)
    isplitl [C00]; · iexact C00
    iexact A00
  iintro %_ ⟨H, HO⟩
  ihave H := (unzip _ _ _) $$ H
  icases H with ⟨Ps0, Z00⟩
  iapply (seq (run_rsDone m κ c 1)) $$ [C01 A01 HO]
  · isplitr; · iexact Hc
    isplitr [HO]; swap; · iexact HO
    iapply (zip _ _ _)
    isplitl [C01]; · iexact C01
    iexact A01
  iintro %_ ⟨H, HO⟩
  ihave H := (unzip _ _ _) $$ H
  icases H with ⟨Ps1, Z01⟩
  iapply (seq (run_agDone m κ c 0)) $$ [C20 A20 HO]
  · isplitr; · iexact Hc
    isplitr [HO]; swap; · iexact HO
    iapply (zip _ _ _)
    isplitl [C20]; · iexact C20
    iexact A20
  iintro %_ ⟨H, HO⟩
  ihave H := (unzip _ _ _) $$ H
  icases H with ⟨Rs0, Z20⟩
  iapply (last (run_agDone m κ c 1)) $$ [C21 A21 HO]
  · isplitr; · iexact Hc
    isplitr [HO]; swap; · iexact HO
    iapply (zip _ _ _)
    isplitl [C21]; · iexact C21
    iexact A21
  iintro %_ ⟨H, HO⟩
  ihave H := (unzip _ _ _) $$ H
  icases H with ⟨Rs1, Z21⟩
  -- everything whole again
  ihave Hin := (close_in m c) $$ Hin
  icases Hin with ⟨Bdy, Bw, HI, Zin⟩
  unfold bodyEnd zeroAll scratch
  isplitl [Zbar Zin Z00 Z01 Z10 Z11 Z20 Z21 Z30 Z31]
  · isplitl [Zbar]; · iexact Zbar
    rw [fam_own]
    isplitl [Zin]; · iexact Zin
    isplitl [Z00 Z01]
    · isplitl [Z00]; · iexact Z00
      iexact Z01
    isplitl [Z10 Z11]
    · isplitl [Z10]; · iexact Z10
      iexact Z11
    isplitl [Z20 Z21]
    · isplitl [Z20]; · iexact Z20
      iexact Z21
    isplitl [Z30]; · iexact Z30
    iexact Z31
  isplitl [Bdy Bw P0 P1 Ps0 Ps1 R0 R1 Rs0 Rs1 S0 S1 G0 G1]
  · isplitl [Bdy]; · iexact Bdy
    isplitl [Bw]; · iexact Bw
    isplitl [P0 P1 Ps0 Ps1]
    · iexists (partW m c)
      iapply (Entails.of_eq (split_part c (partW m c)).symm)
      isplitl [P0 Ps0]
      · isplitl [P0]; · iexact P0
        iexact Ps0
      · isplitl [P1]; · iexact P1
        iexact Ps1
    isplitl [R0 R1 Rs0 Rs1]
    · iexists (redW m c)
      iapply (Entails.of_eq (split_red c (redW m c)).symm)
      isplitl [R0 Rs0]
      · iapply (Entails.of_eq (split_share c 0 (redW m c)).symm)
        isplitl [R0]; · iexact R0
        iexact Rs0
      · iapply (Entails.of_eq (split_share c 1 (redW m c)).symm)
        isplitl [R1]; · iexact R1
        iexact Rs1
    isplitl [S0 S1]
    · iexists (rsW m c)
      iapply (Entails.of_eq (split_rs c (rsW m c)).symm)
      isplitl [S0]; · iexact S0
      iexact S1
    · iexists (agW m c)
      iapply (Entails.of_eq (split_ag c (agW m c)).symm)
      isplitl [G0]; · iexact G0
      iexact G1
  isplitl [HI]; · iexact HI
  isplitr [HO]; swap; · iexact HO
  iapply (Entails.of_eq (split_out c (outW m c)).symm)
  isplitl [O0 Og0]
  · isplitl [O0]; · iexact O0
    iexact Og0
  · isplitl [O1]; · iexact O1
    iexact Og1

end Cert.KernelIdeal.Proof

end

end
-- ==== Proof.Deal.lean ====
module

public import proofs.«01_k».proof.Proof.Whole

/-! # Dealing out what the protocol starts with

The cells' invariants are made for all devices at once, a duty's right goes from the device whose cell it is of to
the device that performs it, and what each device owes at the start is what the others may wait for. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rights to the duties -/

/-- The duties of a device's cells: seven of the barrier's, one of every other cell. -/
abbrev JJ : Type := Fin 7 ⊕ KI

/-- The cell of a duty. -/
def dutyCell : JJ → KK
  | .inl _ => kBar
  | .inr k => .inr k
/-- A duty's name in its cell's round. -/
def dutyName : JJ → Fin 7
  | .inl i => i
  | .inr _ => 0
/-- A duty of a device's cell, as the library names it. -/
abbrev dutyOf (x : Dev nD × JJ) : GSem nD τ sig × ℕ × Fin 7 := (cell x.1 (dutyCell x.2), 0, dutyName x.2)

theorem dutyOf_inj : Function.Injective dutyOf := by
  rintro ⟨c, j⟩ ⟨c', j'⟩ h
  obtain ⟨h1, h2⟩ := Prod.mk.inj h
  have h3 : dutyName j = dutyName j' := (Prod.mk.inj h2).2
  obtain ⟨hc, hk⟩ := Prod.mk.inj (cell_inj (a₁ := (c, dutyCell j)) (a₂ := (c', dutyCell j')) h1)
  subst hc
  rcases j with i | k <;> rcases j' with i' | k'
  · exact congrArg (fun i => (c, Sum.inl i)) h3
  · exact absurd hk Sum.inl_ne_inr
  · exact absurd hk Sum.inr_ne_inl
  · exact congrArg (fun k => (c, Sum.inr k)) (Sum.inr.inj hk)

/-- Every cell. -/
def allCells : Finset (GSem nD τ sig) := Finset.univ.map ⟨fun p : Dev nD × KK => cell p.1 p.2, cell_inj⟩
/-- Every duty. -/
def allDuties : Finset (GSem nD τ sig × ℕ × Fin 7) := Finset.univ.map ⟨dutyOf, dutyOf_inj⟩

/-- What the machine starts with: the pipeline's resources and the protocol's. -/
def u₀ : UU :=
  (initOf (Pipeline.cells cfgs cellOf_inj) (Pipeline.launchToks cfgs cellOf_inj), initOf allCells allDuties)

/-- The rights to the duties of a device's own cells. -/
def toksAt (c : Dev nD) : sProp 𝕄 := bigSep Finset.univ fun j : JJ => tok (F := F) c (dutyCell j) (dutyName j)

/-- A device and a distance, seen from the other end. -/
def across : Dev nD × Fin 7 ≃ Dev nD × Fin 7 :=
  Function.Involutive.toPerm (fun p => (p.1 + dist p.2, opp p.2)) fun p => by
    show (p.1 + dist p.2 + dist (opp p.2), opp (opp p.2)) = p
    rw [back, opp_opp]

/-- A family over devices and distances, regrouped by the other end. -/
theorem around (Φ : Dev nD → Fin 7 → sProp 𝕄) :
    (bigSep Finset.univ fun c => at7 (Φ c)) = bigSep Finset.univ fun c => at7 fun i => Φ (c + dist i) (opp i) := by
  have h : ∀ Ψ : Dev nD → Fin 7 → sProp 𝕄, (bigSep Finset.univ fun c => at7 (Ψ c)) = bigSep Finset.univ fun p : Dev nD × Fin 7 => Ψ p.1 p.2 :=
    fun Ψ => by rw [bigSep_univ_prod]; exact bigSep_congr fun c _ => (fam_seven (Ψ c)).symm
  rw [h, h, bigSep_univ_equiv across]; rfl

/-- The rights to a device's own cells' duties, kind by kind. -/
theorem toksAt_eq (c : Dev nD) : toksAt (F := F) c = iprop((at7 fun i => tok (F := F) c kBar i)
    ∗ (bigSepL eights fun t => iprop(tok (F := F) c (kIn 0 t) 0 ∗ tok c (kIn 1 t) 0))
    ∗ ((at7 fun i => tok (F := F) c (kX 0 0 i) 0) ∗ (at7 fun i => tok (F := F) c (kX 0 1 i) 0))
    ∗ ((at7 fun i => tok (F := F) c (kX 1 0 i) 0) ∗ (at7 fun i => tok (F := F) c (kX 1 1 i) 0))
    ∗ ((at7 fun i => tok (F := F) c (kX 2 0 i) 0) ∗ (at7 fun i => tok (F := F) c (kX 2 1 i) 0))
    ∗ ((at7 fun i => tok (F := F) c (kX 3 0 i) 0) ∗ (at7 fun i => tok (F := F) c (kX 3 1 i) 0))) := by
  unfold toksAt
  rw [bigSep_univ_sum, fam_seven, fam_own]
  rfl

/-- Every right, dealt to the device that performs the duty. -/
theorem toks_around : (bigSep Finset.univ fun c : Dev nD => toksAt (F := F) c) = bigSep Finset.univ fun c : Dev nD => toksOf (F := F) c := by
  rw [bigSep_congr fun c _ => toksAt_eq (F := F) c]
  unfold toksOf
  simp only [bigSep_sep']
  rw [around (fun c i => tok (F := F) c kBar i), around (fun c i => tok (F := F) c (kX 1 0 i) 0), around (fun c i => tok (F := F) c (kX 1 1 i) 0),
    around (fun c i => tok (F := F) c (kX 3 0 i) 0), around (fun c i => tok (F := F) c (kX 3 1 i) 0)]

/-! ## The invariants -/

variable (m : (ℓ : Loc nD τ sig) → Buf (Elt F) ℓ)

/-- What the start deals device `c`. -/
def dealt (c : Dev nD) : sProp 𝕄 :=
  iprop((bigSep Finset.univ fun k : KK => roundState ER (Rd m) (cell c k) 0)
    ∗ (bigSep Finset.univ fun k : KK => atR (F := F) c k) ∗ (bigSep Finset.univ fun k : KK => reached ER (cell c k) 0) ∗ toksAt (F := F) c)

/-- What device `c` runs with: the invariants at some names, the rights to its duties, its places. -/
def armed (c : Dev nD) : sProp 𝕄 := iprop((∃ κ, recs m κ) ∗ toksOf (F := F) c ∗ atAll (F := F) c)

/-- The protocol's resources, dealt. -/
theorem fund_all : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : KK => Φ (cell c k) := by
    unfold allCells; rw [bigSep_map, bigSep_univ_prod]; rfl
  have hT : bigSep allDuties (fun x => (dutyTok ER x.1 x.2.1 x.2.2 : sProp 𝕄)) = bigSep Finset.univ fun c : Dev nD => toksAt (F := F) c := by
    unfold allDuties; rw [bigSep_map, bigSep_univ_prod]; rfl
  iintro HX
  imod (Rounds.fund ER (Rd m) allCells allDuties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-- A family over a device's cells: the barrier's, and the scoped ones'. -/
theorem fam_cells (Φ : KK → sProp 𝕄) : bigSep Finset.univ Φ = iprop(Φ kBar ∗ bigSep Finset.univ fun k : KI => Φ (.inr k)) := by
  rw [bigSep_univ_sum, bigSep_univ_eq_bigSepL (I := Unit) [()] (by decide) (by decide)]; rfl

/-- The barrier's is the one counter that outlives the call. -/
theorem unscopedSems0_eq (c : Dev nD) : (unscopedSems0 c : sProp 𝕄) = zero c kBar := by
  unfold unscopedSems0; rw [bigSep_eq_bigSepL_of_eq [SemLoc.reg barS] (by decide) (by decide)]; rfl

/-- The kernel's counters of one device, at zero. -/
abbrev own0 (c : Dev nD) : sProp 𝕄 := Pipeline.ownSems0 (Ix := Unit) (Name := ℕ) (U := UU) (Lvl := ℕ) (Val := Elt F) (τ := τ) osem c

/-- A device's counters are its cells'. -/
theorem sems0_eq (c : Dev nD) : iprop(own0 (F := F) c ∗ unscopedSems0 c) ⊢ (bigSep Finset.univ fun k : KK => zero (F := F) c k) := by
  have e : own0 (F := F) c = bigSep Finset.univ fun k : KI => zero (F := F) c (.inr k) := rfl
  rw [unscopedSems0_eq, fam_cells, e]
  iintro ⟨HS, HB⟩
  isplitl [HB]; · iexact HB
  iexact HS

/-- One device's invariants, made. -/
theorem core_alloc (c : Dev nD) : iprop(own0 (F := F) c ∗ unscopedSems0 c ∗ dealt m c)
    ⊢ |={Set.univ}=> iprop((bigSep Finset.univ fun k : KK => iprop(∃ κ : ℕ, cellInv ER (Rd m) κ (cell c k)))
        ∗ (bigSep Finset.univ fun k : KK => atR (F := F) c k) ∗ (bigSep Finset.univ fun k : KK => reached ER (cell c k) 0) ∗ toksAt (F := F) c) := by
  unfold dealt
  iintro ⟨Hos, Hus, Hst, Hrest⟩
  ihave Hv := (sems0_eq (F := F) c) $$ [Hos Hus]
  · isplitl [Hos] <;> iassumption
  imod (show iprop((bigSep Finset.univ fun k : KK => zero (F := F) c k) ∗ bigSep Finset.univ fun k : KK => roundState ER (Rd m) (cell c k) 0)
      ⊢ (|={Set.univ}=> bigSep Finset.univ fun k : KK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  iexact Hrest

/-- What may be used again and again goes to every member of a family. -/
theorem spread {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- All devices' invariants at common names, and the rights dealt. -/
theorem regroup :
    (bigSep Finset.univ fun c : Dev nD => iprop((bigSep Finset.univ fun k : KK => iprop(∃ κ : ℕ, cellInv ER (Rd m) κ (cell c k)))
        ∗ (bigSep Finset.univ fun k : KK => atR (F := F) c k) ∗ (bigSep Finset.univ fun k : KK => reached ER (cell c k) 0) ∗ toksAt (F := F) c) : sProp 𝕄)
      ⊢ bigSep Finset.univ (armed m) := by
  simp only [bigSep_sep']
  rw [toks_around, ← bigSep_univ_prod (fun p : Dev nD × KK => iprop(∃ κ : ℕ, cellInv ER (Rd m) κ (cell p.1 p.2))),
    ← bigSep_univ_prod (fun p : Dev nD × KK => (reached ER (cell p.1 p.2) 0 : sProp 𝕄)), bigSep_congr fun c _ => fam_cells (fun k => atR (F := F) c k)]
  iintro ⟨HI, Hat, HR, Htok⟩
  ihave HK := (BI.bigSep_exists_pi Finset.univ (fun (p : Dev nD × KK) (κ : ℕ) => (cellInv ER (Rd m) κ (cell p.1 p.2) : sProp 𝕄))) $$ HI
  icases HK with ⟨%κ, HI⟩
  ihave #HC := (show iprop((bigSep Finset.univ fun p : Dev nD × KK => cellInv ER (Rd m) (κ p) (cell p.1 p.2))
      ∗ bigSep Finset.univ fun p : Dev nD × KK => reached ER (cell p.1 p.2) 0) ⊢ recs m κ from
    Entails.of_eq (bigSep_sep' Finset.univ _ _).symm) $$ [HI HR]
  · isplitl [HI] <;> iassumption
  iapply (spread (R := recs m κ) (Φ := fun c => iprop(toksOf (F := F) c ∗ atAll (F := F) c)) fun c => show _ ⊢ armed m c from by
    unfold armed
    iintro ⟨#H, HT⟩
    isplitr; · iexists κ; iexact H
    iexact HT)
  isplitr; · iexact HC
  iapply (show iprop((bigSep Finset.univ fun c : Dev nD => toksOf (F := F) c) ∗ bigSep Finset.univ fun c : Dev nD => iprop(atR (F := F) c kBar
      ∗ bigSep Finset.univ fun k : KI => atR (F := F) c (.inr k)))
      ⊢ bigSep Finset.univ fun c : Dev nD => iprop(toksOf (F := F) c ∗ atAll (F := F) c) from Entails.of_eq (by
    unfold atAll; simp only [bigSep_sep']))
  isplitl [Htok]; · iexact Htok
  iexact Hat

/-- All devices at once: from the counters at zero and what was dealt to what the devices run with. -/
theorem glob : (bigSep Finset.univ fun c => iprop(own0 (F := F) c ∗ unscopedSems0 c ∗ dealt m c)) ⊢ |={Set.univ}=> bigSep Finset.univ (armed m) :=
  ((bigSep_mono fun c _ => core_alloc m c).trans (bigSep_fupd _ _)).trans (BI.fupd_mono (regroup m))

/-! ## What the devices may wait for -/

/-- The cells device `d` owes to, one entry per debt. -/
def keys (d : Dev nD) : List (Dev nD × KK) :=
  sevens.map (fun i => (d + dist i, kBar)) ++ (sevens.map (fun i => (d + dist i, kX 1 0 (opp i))) ++ (sevens.map (fun i => (d + dist i, kX 1 1 (opp i)))
    ++ (sevens.map (fun i => (d + dist i, kX 3 0 (opp i))) ++ (sevens.map (fun i => (d + dist i, kX 3 1 (opp i))) ++ []))))

theorem owAll_eq (d : Dev nD) : owAll d = (keys d).map fun p => (cell p.1 p.2, amt p.2) := rfl

/-- How often a cell occurs in a list. -/
def times (l : List (Dev nD × KK)) (c : Dev nD) (k : KK) : ℕ := l.countP fun p => decide (p.1 = c ∧ p.2 = k)

/-- A list of debts at a cell: as often as the cell occurs, its amount. -/
theorem owedOf_count (c : Dev nD) (k : KK) : ∀ l : List (Dev nD × KK),
    owedOf (l.map fun p => (cell p.1 p.2, amt p.2)) (cell c k) () = times l c k * amt k
  | [] => (Nat.zero_mul _).symm
  | p :: l => by
    show (owedOf (l.map fun p => (cell p.1 p.2, amt p.2)) + tallyAt (cell p.1 p.2) () (amt p.2)) (cell c k) () = _
    rw [Pi.add_apply, Finsupp.add_apply, owedOf_count c k l, tallyAt_apply]
    unfold times
    rw [List.countP_cons]
    by_cases h : p.1 = c ∧ p.2 = k
    · obtain ⟨rfl, rfl⟩ := h
      rw [if_pos ⟨rfl, rfl⟩, if_pos (by simp), Nat.add_mul, Nat.one_mul]
    · rw [if_neg fun hx => h (Prod.mk.inj (cell_inj (a₁ := (c, k)) (a₂ := p) hx.1).symm), if_neg (by simpa using h)]
      rfl

/-- A cell's credit at the start: its amount, as often as some device owes to it. -/
theorem launch_cell (c : Dev nD) (k : KK) (n a : ℕ) (hn : ∑ d : Dev nD, times (keys d) c k = n) (ha : n * amt k = a) :
    tallyOn (cell c k) (launchCredit (Pipeline.owing fun d => owedOf (owAll d)) 0 (cell c k)) = (tallyAt (cell c k) () a : CellTallies nD τ sig Unit) := by
  unfold tallyAt; refine congrArg _ (Finsupp.ext fun u => ?_); cases u
  rw [Pipeline.launchCredit_owing, Finsupp.single_eq_same, Finset.sum_congr rfl fun d _ => (congrArg (fun l => owedOf l (cell c k) ()) (owAll_eq d)).trans (owedOf_count c k (keys d)),
    ← Finset.sum_mul, hn, ha]

theorem count_bar : ∀ c : Dev nD, ∑ d : Dev nD, times (keys d) c kBar = 7 := by decide +kernel
theorem count_rs : ∀ (c : Dev nD) (h : Fin 2) (s : Fin 7), ∑ d : Dev nD, times (keys d) c (kX 1 h s) = 1 := by decide +kernel
theorem count_ag : ∀ (c : Dev nD) (h : Fin 2) (s : Fin 7), ∑ d : Dev nD, times (keys d) c (kX 3 h s) = 1 := by decide +kernel

/-- The credit of a device's cell at the start. -/
abbrev startCred (c : Dev nD) (k : KK) : sProp 𝕄 :=
  cred (tallyOn (cell c k) (launchCredit (Pipeline.owing fun d => owedOf (owAll d)) 0 (cell c k)))

theorem cred_rs (c : Dev nD) (h : Fin 2) : (at7 fun s => startCred (F := F) c (kX 1 h s)) = at7 fun s => credit (F := F) c (kX 1 h s) Nx :=
  bigSepL_congr (fun s => congrArg cred (launch_cell c (kX 1 h s) 1 Nx (count_rs c h s) (Nat.one_mul _))) _
theorem cred_ag (c : Dev nD) (h : Fin 2) : (at7 fun s => startCred (F := F) c (kX 3 h s)) = at7 fun s => credit (F := F) c (kX 3 h s) Nx :=
  bigSepL_congr (fun s => congrArg cred (launch_cell c (kX 3 h s) 1 Nx (count_ag c h s) (Nat.one_mul _))) _
theorem cred_bar (c : Dev nD) : startCred (F := F) c kBar = credit (F := F) c kBar 7 :=
  congrArg cred (launch_cell c kBar 7 7 (count_bar c) (Nat.mul_one _))

/-- A device's credits at the start hold what its body waits for. -/
theorem creds (c : Dev nD) : (Pipeline.launchCred (fun d => owedOf (owAll d)) c : sProp 𝕄) ⊢ credAll (F := F) c := by
  have h : (Pipeline.launchCred (fun d => owedOf (owAll d)) c : sProp 𝕄) ⊢ bigSep Finset.univ fun k : KK => startCred (F := F) c k := by
    unfold Pipeline.launchCred
    refine BI.BIBase.Entails.trans (bigSep_subset (Finset.subset_univ (Finset.univ.map ⟨csem, csem_inj⟩))) (Entails.of_eq ?_)
    rw [bigSep_map]; rfl
  refine h.trans ?_
  rw [fam_cells, fam_own, cred_rs, cred_rs, cred_ag, cred_ag, cred_bar]
  unfold credAll
  iintro ⟨HB, -, -, H1, -, H3⟩
  isplitl [HB]; · iexact HB
  isplitl [H1]; · iexact H1
  iexact H3

end Cert.KernelIdeal.Proof

end

end
-- ==== Proof.BodyEq.lean ====
module

public import proofs.«01_k».proof.Proof.Prog

/-! # The printed body and the body as loops are one program -/

@[expose] public section

set_option synthInstance.maxSize 4096

noncomputable section

namespace Cert.KernelIdeal.Proof

open Idealize.ShloMosaic Idealize.SL.Sem Cert.KernelIdeal.Gen

variable {F : FTy → Type} [FloatOps F]

set_option maxRecDepth 65536 in
set_option maxHeartbeats 0 in
/-- The body the pipeline runs is the body as loops. -/
theorem body_eq : bodyAt0 (F := F) t0_0 = myBody := by
  unfold bodyAt0
  rw [cc0_body_eq_skeleton]
  rfl

end Cert.KernelIdeal.Proof

end

end
-- ==== Proof.Run.lean ====
module

public import proofs.«01_k».proof.Proof.Deal
public import proofs.«01_k».proof.Proof.BodyEq
public import proofs.«01_k».proof.Proof.Gen.KernelIdeal.Launch
public import proofs.«01_k».proof.Proof.Gen.KernelIdeal.Points
public import Idealize.ShloMosaic.Lib.Pipeline.ValueKit
public import Idealize.ShloMosaic.Lib.Pipeline.CollectiveSegs

/-! # The program's run

From any memory with every counter at zero: the program ends, with the result on every device the one the body
leaves, the arguments as they were and every counter at zero. -/

@[expose] public section

set_option synthInstance.maxSize 4096

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The body, as the pipeline asks for it -/

/-- What device `c` brings to the call. -/
def start (c : Dev nD) : sProp 𝕄 := iprop(armed m c ∗ credAll (F := F) c ∗ levAts L lv ∗ ins m c)
/-- Before the body. -/
def before (c : Dev nD) : sProp 𝕄 := iprop(start m c ∗ scratch (F := F) c)
/-- After it. -/
def after (c : Dev nD) : sProp 𝕄 := iprop(zeroAll (F := F) c ∗ scratch (F := F) c ∗ ins m c)

/-- What the pipeline's one point does on device `c`. -/
def dats (_ : Fin 1) (c : Dev nD) : Dat τ (Elt F) Unit ℕ UU ℕ cfg0 c where
  A w := m ((cfg0.win w).arr.view.loc (c : Thread nD τ))
  after w _ := match w with
    | ⟨0, _⟩ => outW m c
  Φ t := match t with
    | ⟨0, _⟩ => before m c
    | ⟨_ + 1, _⟩ => after m c
  q _ := fullShare
  owed t := match t with
    | ⟨0, _⟩ => owedOf (owAll c)
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result's staging buffer, holding `X`. -/
abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- What the pipeline hands the body. -/
def bodyPre (c : Dev nD) : sProp 𝕄 :=
  iprop(before m c ∗ (dats m 0 c).owesAt () t0_0.castSucc ∗ (∃ d, staged c ((dats m 0 c).before (0 : Fin 1) t0_0 d)))
/-- What it takes back. -/
def bodyPost (c : Dev nD) : sProp 𝕄 :=
  iprop(after m c ∗ (dats m 0 c).owesAt () t0_0.succ ∗ staged (F := F) c (outW m c))

theorem start_of (c : Dev nD) : bodyPre m c ⊢ iprop((∃ κ, ctx m κ) ∗ bodyStart m c) := by
  unfold bodyPre before start armed bodyStart ow ctx Dat.owesAt Pipeline.owesWithin
  iintro ⟨⟨⟨⟨⟨%κ, HR⟩, HT, HA⟩, HC, HL, HI⟩, HS⟩, ⟨%W, %hW, HO⟩, ⟨%d, %f, %hf, Hout⟩⟩
  isplitl [HR HL]
  · iexists κ
    isplitl [HR]; · iexact HR
    iexact HL
  isplitl [HT]; · iexact HT
  isplitl [HA]; · iexact HA
  isplitl [HC]; · iexact HC
  isplitl [HS]; · iexact HS
  isplitl [HI]; · iexact HI
  isplitl [Hout]; · iexists f; iexact Hout
  iexists W; iexact HO

theorem end_to (c : Dev nD) : bodyEnd m c ⊢ bodyPost m c := by
  unfold bodyEnd bodyPost after ow Dat.owesAt Pipeline.owesWithin
  iintro ⟨HZ, HS, HI, Hout, ⟨%W, HO⟩⟩
  isplitl [HZ HS HI]
  · isplitl [HZ]; · iexact HZ
    isplitl [HS]; · iexact HS
    iexact HI
  isplitl [HO]
  · iexists W
    isplitr; · ipureintro; exact fun _ _ => Or.inl trivial
    iexact HO
  iexists _; isplitr; · (ipureintro; rfl)
  iexact Hout

/-- The body on device `c`, from what the pipeline hands it to what it takes back. -/
theorem run_point (c : Dev nD) : bodyPre m c ⊢ runs c (myBody (F := F)) (fun _ => bodyPost m c) := by
  refine BI.BIBase.Entails.trans (start_of m c) ?_
  iintro ⟨⟨%κ, #HX⟩, HS⟩
  ihave H := (run_body m κ c) $$ [HS]
  · isplitr; · iexact HX
    iexact HS
  iapply (show runs c (myBody (F := F)) (fun _ => bodyEnd m c) ⊢ runs c (myBody (F := F)) (fun _ => bodyPost m c) from Idealize.SL.Sem.wp_mono _ _ _ fun _ => end_to m c) $$ H

set_option maxRecDepth 65536 in
/-- The pipeline's obligation on device `c`. -/
theorem body_obligation (c : Dev nD) : BodyObligation (dats m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ (bodyAt0 t0_0) (fun _ => bodyPost m c)
  rw [body_eq]
  exact run_point m c

/-! ## The launch -/

theorem ownSemFacts : Pipeline.OwnSemFacts cfg0.spec osem := by decide +kernel

theorem share_eq (c : Dev nD) (w : Fin cfg0.W) : (dats m 0 c).share w = fullShare := by unfold Dat.share; split <;> rfl

/-- The scratch buffers are what the launch keeps for the body. -/
theorem scratch_eq (c : Dev nD) : (Pipeline.scopedRest (Val := Elt F) cfg0.spec c : sProp 𝕄) = scratch (F := F) c := scopedRest0_eq c
/-- The factors are the buffers that outlive the call beside the result. -/
theorem ins_eq (c : Dev nD) : (Pipeline.unscopedRest cfg0.spec c (fun b => m ((c : Thread nD τ).loc b)) : sProp 𝕄) = ins m c := unscopedRest0_eq c _

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owedOf (owAll d)) c ∗ prngReg c (ρ c) ∗ armed m c)
      ⊢ |={Set.univ}=> iprop(start m c ∗ emp) := by
  rw [Pipeline.unscopedRestP_none, ins_eq]
  iintro ⟨HI, HL, HC, -, HG⟩
  ihave HC := (creds (F := F) c) $$ HC
  imodintro
  unfold start
  isplitl
  · isplitl [HG]; · iexact HG
    isplitl [HC]; · iexact HC
    isplitl [HL]; · iexact HL
    iexact HI
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scratch_eq]
  unfold before
  iintro ⟨HS, -, HR⟩
  isplitl [HS]; · iexact HS
  iexact HR

theorem after_exit (c : Dev nD) :
    (dats m 0 c).Φ (Fin.last cfg0.N) ⊢ iprop((unscopedSems0 c ∗ ins m c) ∗ own0 (F := F) c ∗ Pipeline.scopedRest cfg0.spec c) := by
  have e : own0 (F := F) c = bigSep Finset.univ fun k : KI => zero (F := F) c (.inr k) := rfl
  rw [show (dats m 0 c).Φ (Fin.last cfg0.N) = after m c from rfl, scratch_eq, e, unscopedSems0_eq]
  unfold after zeroAll
  iintro ⟨⟨HB, HZ⟩, HR, HI⟩
  isplitl [HB HI]
  · isplitl [HB]; · iexact HB
    iexact HI
  isplitl [HZ]; · iexact HZ
  iexact HR

theorem stage_level : ∀ (w : Fin 1) (s : Fin (spec0 w).nbuf) (k : KK), SemLoc.dma ((spec0 w).sem s) ≠ csem k := by decide +kernel

theorem waits (c : Dev nD) : (levAts L lv : sProp 𝕄) ⊢ Pipeline.cellsWaits cfgs (dats m) () 0 c :=
  Pipeline.cellsWaits_intro cfgs (dats m) () 0 c fun w s t => by
    have h0 : lvK (dec (SemLoc.dma ((cfg0.win w).sem s))) ≤ 0 := by
      have : dec (SemLoc.dma ((cfg0.win w).sem s)) = none := by
        unfold dec Function.partialInv
        exact dif_neg fun ⟨k, hk⟩ => stage_level w s k hk.symm
      rw [this]; exact le_rfl
    rcases t with ⟨_ | _, ht⟩
    · exact mayWait_of c _ 0 h0 (owAll c) (above_owAll c)
    · exact mayWait_of c _ 0 h0 [] (Above.nil 0)

/-- What every final state satisfies. -/
def Ends (r : PUnit × MemSt nD τ sig (Elt F)) : Prop := ∀ c : Dev nD,
  r.2.mem ((c : Thread nD τ).loc main_v1) = outW m c
    ∧ r.2.mem ((c : Thread nD τ).loc main_arg0) = m ((c : Thread nD τ).loc main_arg0)
    ∧ r.2.mem ((c : Thread nD τ).loc main_arg1) = m ((c : Thread nD τ).loc main_arg1)

/-- The result array ends with the body's result: the one block is the whole array. -/
theorem finalA_eq (c : Dev nD) : (dats m 0 c).arrAt (0 : Fin 1) cfg0.N = outW m c :=
  (dats m 0 c).arrAt_eq_of_after_last (0 : Fin 1) t0_0 (by decide +kernel) (outW m c) fun j => by
    blk_simp
    rfl

/-- The arguments, read at the end. -/
theorem ins_read (c : Dev nD) (s' : Phys nD τ sig (Elt F)) : iprop(ins m c ∗ SI s') ⊢ iprop(⌜s'.mem.mem ((c : Thread nD τ).loc main_arg0) = m ((c : Thread nD τ).loc main_arg0)
    ∧ s'.mem.mem ((c : Thread nD τ).loc main_arg1) = m ((c : Thread nD τ).loc main_arg1)⌝ ∗ SI s' : sProp 𝕄) := by
  have h := pointsTo_read_all (nD := nD) (τ := τ) (sig := sig) (Val := Elt F) (Ix := Unit) (Name := ℕ) (U := UU) (Lvl := ℕ) (Finset.univ : Finset (Fin 2)) (fun b => (bufIn b).view.loc (c : Thread nD τ)) (fun b => inX m b c) s'
  rw [fam_two] at h
  refine BI.BIBase.Entails.trans (show _ ⊢ _ from h) ?_
  iintro ⟨%hr, H⟩
  isplitr
  · ipureintro; exact ⟨hr 0 (Finset.mem_univ _), hr 1 (Finset.mem_univ _)⟩
  iexact H

set_option maxRecDepth 65536 in
/-- The run, for any float values. -/
theorem run_main (ρ : Dev nD → PrngReg) :
    θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedOf (owAll d)) (howed₀ := fun _ => rfl) (howedN := fun _ => rfl)
    (L := L) (lv := lv) (hL := L_of_ne) (hwaits := waits m)
    (G := dealt m) (G' := armed m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ ins m c)) (Z := fun _ => iprop(emp))
    (hX := start_intro m ρ) (hin := before_intro m) (hout := after_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      iintro ⟨⟨Hu, HI⟩, -, HSI⟩
      ihave H := (ins_read m c s') $$ [HI HSI]
      · isplitl [HI] <;> iassumption
      icases H with ⟨%hi, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hi⟩
      iexact HSI)
    (hQ := fun _ h hs => ⟨fun c => ⟨((h c).1 (0 : Fin 1)).trans (finalA_eq m c), (h c).2.2.2⟩, sem_eq_zero hs fun c => (h c).2.2.1⟩)

end Cert.KernelIdeal.Proof

end

end
-- ==== Proof.Twin.lean ====
/-
  The program and its idealized form have one text.  Both are generic in the float values, so the
  two are equal at any of them, and the run of one is the run of the other.
-/
module
public import proofs.«01_k».proof.Proof.Run
public import proofs.«01_k».proof.Kernel
public import proofs.«01_k».proof.Proof.Gen.Kernel.Skeleton
@[expose] public section
noncomputable section
namespace Cert.Kernel.Proof
open Idealize.ShloMosaic
variable {F : FTy → Type} [FloatOps F]

/-- The two body tables are equal: the one kernel body has the same text in both. -/
theorem table_twin : Cert.Kernel.defs₀ (F := F) = Cert.KernelIdeal.defs₀ := by
  funext p ℓ a
  match p, ℓ, a with
  | .tc, ⟨0, _⟩, (t, s) => rfl
  | .scScalar _, ℓ, a => rfl
  | .scVector _ _, ℓ, a => rfl

/-- So are the tables with the pipeline's own labels. -/
theorem defs_twin : Cert.Kernel.defs (F := F) = Cert.KernelIdeal.defs :=
  congrArg (Pipeline.defs Cert.KernelIdeal.pcfgs) (table_twin (F := F))

/-- The kernel's run, read off the idealized program's: every device ends with its output array at
    its closed form, its arguments unchanged, and every counter at zero. -/
theorem run_main (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩
      (fun r => Cert.KernelIdeal.Proof.Ends m r ∧ r.2.sem = fun _ => 0) := by
  have h := Cert.KernelIdeal.Proof.run_main (F := F) m ρ
  rw [← defs_twin (F := F)] at h
  exact h

end Cert.Kernel.Proof
end
end
-- ==== Proof.Value.lean ====
module

public import proofs.«01_k».proof.Proof.Contents
public import proofs.«01_k».proof.ReferenceIdeal
public import Idealize.ShloMosaic.Lib.Layout
public import Idealize.ShloMosaic.Lib.MatmulPlain
public import Idealize.ShloMosaic.Lib.Pipeline.Value
public import Idealize.ShloMosaic.PureOps.Ideal.Laws

/-! # What the result is over the reals

At the ideal values a change of format is the identity and every sum may be taken in any order. Read from
the last store back to the arguments, an element of the result is then the sum, over the devices, over a
device's eight column blocks and over a block's 256 columns, of the products of the two factors, and that is
the sum over all 16384 columns which the reference takes. -/

@[expose] public section

set_option synthInstance.maxSize 4096

noncomputable section

namespace Cert.KernelIdeal.Proof

open Cert.KernelIdeal Cert.KernelIdeal.Gen
open Idealize.ShloMosaic
open Idealize.ShloMosaic.TcCoe
open scoped BigOperators

/-! ## Sums -/

/-- A sum over `n · k` places is the sum over `n` blocks of the sums over their `k` places. -/
theorem sum_blocks {M : Type*} [AddCommMonoid M] (n k : ℕ) (f : Fin (n * k) → M) :
    ∑ j, f j = ∑ a : Fin n, ∑ b : Fin k, f (finProdFinEquiv (a, b)) := by
  rw [← Equiv.sum_comp finProdFinEquiv f, Fintype.sum_prod_type]

/-- The device's own term and the seven others', summed pairwise, are the sum over all devices. -/
theorem sum_devices (c : Dev nD) (f : Dev nD → EReal) :
    ((f c + f (c + dist 0)) + (f (c + dist 1) + f (c + dist 2))) + ((f (c + dist 3) + f (c + dist 4)) + (f (c + dist 5) + f (c + dist 6)))
      = ∑ d : Fin 8, f d := by
  have h := Equiv.sum_comp (Equiv.addLeft (show Fin 8 from c)) (show Fin 8 → EReal from f)
  rw [← h, Fin.sum_univ_eight]
  have h0 : f ((show Fin 8 from c) + 0) = f c := congrArg f (add_zero (show Fin 8 from c))
  show _ = f ((show Fin 8 from c) + 0) + f (c + dist 0) + f (c + dist 1) + f (c + dist 2) + f (c + dist 3) + f (c + dist 4) + f (c + dist 5) + f (c + dist 6)
  rw [h0]
  simp only [add_assoc]

/-! ## A device's product -/

/-- Column `256 t + k` of a device's factor. -/
abbrev col (t : Fin 8) (k : Fin 256) : Fin 2048 := ⟨256 * t.val + k.val, by omega⟩

/-- One block's product, element by element. -/
theorem mm_at (a b : Vec Ideal S1x512x256 .f32) (r q : Fin 512) :
    mm (F := Ideal) a b (ix2 (n0 := 512) (n1 := 512) r q)
      = ∑ k : Fin 256, (a (ix3 (n0 := 1) (n1 := 512) (n2 := 256) 0 r k) * b (ix3 (n0 := 1) (n1 := 512) (n2 := 256) 0 q k) : EReal) := by
  have hc : ∀ (v : Vec Ideal S1x512x256 .f32) (r : Fin 512) (k : Fin 256),
      shapeCast S512x256 v shapeCasts_S1x512x256_S512x256 (ix2 (n0 := 512) (n1 := 256) r k) = v (ix3 (n0 := 1) (n1 := 512) (n2 := 256) 0 r k) := fun v r k => by
    unfold shapeCast
    rw [reshape3]; rfl
  have h := Ideal.matmul_transposedRhs_apply (M := 512) (K := 256) (N := 512) none
    (shapeCast S512x256 a shapeCasts_S1x512x256_S512x256 : FVec Ideal ⟨2, ![512, 256]⟩ .f32)
    (shapeCast S512x256 b shapeCasts_S1x512x256_S512x256 : FVec Ideal ⟨2, ![512, 256]⟩ .f32)
    (constant S512x512 .f32 0x00000000#32) r q
  refine (show _ = _ from h).trans ?_
  refine (congrArg (· + _) (Ideal.ofBits_zero_f32)).trans ((zero_add _).trans ?_)
  exact Finset.sum_congr rfl fun k _ => congrArg₂ (· * ·) (hc a r k) (hc b q k)

variable (m : (ℓ : Loc nD τ sig) → Buf (Elt Ideal) ℓ)

/-- The left factor on device `c`. -/
def lhsAt (c : Dev nD) (r : Fin 512) (j : Fin 2048) : EReal := m (c.tc.loc main_arg0) (ix2 (n0 := 512) (n1 := 2048) r j)
/-- The right factor on device `c`. -/
def rhsAt (c : Dev nD) (r : Fin 512) (j : Fin 2048) : EReal := m (c.tc.loc main_arg1) (ix2 (n0 := 512) (n1 := 2048) r j)

/-- The left factor's block `t` on device `c` holds its columns `256 t` to `256 t + 255`. -/
theorem blkA_at (c : Dev nD) (t : Fin 8) (r : Fin 512) (k : Fin 256) :
    blkA m c t (ix3 (n0 := 1) (n1 := 512) (n2 := 256) 0 r k) = lhsAt m c r (col t k) := by
  show inX m 0 c (ix2 (n0 := 512) (n1 := 2048) ⟨0 + 1 * r.val, _⟩ ⟨256 * (t.val + 1 * 0) + (0 + 1 * k.val), _⟩) = _
  simp only [Nat.mul_zero, Nat.add_zero, Nat.zero_add, Nat.one_mul, Fin.eta]
  rfl

/-- So does the right factor's. -/
theorem blkB_at (c : Dev nD) (t : Fin 8) (r : Fin 512) (k : Fin 256) :
    blkB m c t (ix3 (n0 := 1) (n1 := 512) (n2 := 256) 0 r k) = rhsAt m c r (col t k) := by
  show inX m 1 c (ix2 (n0 := 512) (n1 := 2048) ⟨0 + 1 * r.val, _⟩ ⟨256 * (t.val + 1 * 0) + (0 + 1 * k.val), _⟩) = _
  simp only [Nat.mul_zero, Nat.add_zero, Nat.zero_add, Nat.one_mul, Fin.eta]
  rfl

/-- What device `c` adds to element `(r, q)` of the product. -/
def term (c : Dev nD) (r q : Fin 512) : EReal :=
  ∑ t : Fin 8, ∑ k : Fin 256, lhsAt m c r (col t k) * rhsAt m c q (col t k)

/-- A device's product, element by element. -/
theorem accW_at (c : Dev nD) (r q : Fin 512) : accW m c (ix2 (n0 := 512) (n1 := 512) r q) = term m c r q := by
  have h : ∀ t, mm (F := Ideal) (blkA m c t) (blkB m c t) (ix2 (n0 := 512) (n1 := 512) r q)
      = ∑ k : Fin 256, lhsAt m c r (col t k) * rhsAt m c q (col t k) := fun t =>
    (mm_at _ _ r q).trans (Finset.sum_congr rfl fun k _ => congrArg₂ (· * ·) (blkA_at m c t r k) (blkB_at m c t q k))
  unfold term
  simp only [← h]
  rw [Fin.sum_univ_eight]
  rfl

/-! ## The pieces that travel -/

/-- Row `64 e + r` of the result. -/
abbrev row (e : Dev nD) (r : Fin 64) : Fin 512 := ⟨64 * e.val + r.val, by have h : e.val < 8 := e.isLt; omega⟩
/-- Column `256 h + q` of the result. -/
abbrev colO (h : Fin 2) (q : Fin 256) : Fin 512 := ⟨256 * h.val + q.val, by omega⟩

/-- The stored product is the product, by chunks of 64 rows. -/
theorem partW_at (c e : Dev nD) (r : Fin 64) (q : Fin 512) (i : S8x64x512.Idx) (h0 : (i 0).val = e.val) (h1 : (i 1).val = r.val)
    (h2 : (i 2).val = q.val) : (partW m c i : EReal) = term m c (row e r) q := by
  refine Eq.trans ?_ (accW_at m c (row e r) q)
  unfold partW packPart
  rw [shapeCast_self]
  refine shapeCast_apply _ _ _ (ix2 (n0 := 512) (n1 := 512) (row e r) q) ?_
  rw [Shape.rowMajor_val_two, Shape.rowMajor_val_three]
  show (64 * e.val + r.val) * 512 + q.val = ((i 0).val * 64 + (i 1).val) * 512 + (i 2).val
  rw [h0, h1, h2]; omega

/-- A block widened is the block, without its unit axis. -/
theorem wide1_at (v : Vec Ideal S1x64x256 .bf16) (r : Fin 64) (q : Fin 256) :
    (wide1 v (ix2 (n0 := 64) (n1 := 256) r q) : EReal) = v (ix3 (n0 := 1) (n1 := 64) (n2 := 256) 0 r q) := by
  show shapeCast S64x256 v shapeCasts_S1x64x256_S64x256 (ix2 (n0 := 64) (n1 := 256) r q) = _
  unfold shapeCast
  rw [reshape3]; rfl

/-- A slot widened is the slot, without its two unit axes. -/
theorem wide_at (v : Vec Ideal S1x1x64x256 .bf16) (r : Fin 64) (q : Fin 256) :
    (wide v (ix2 (n0 := 64) (n1 := 256) r q) : EReal) = v (ix4 (n0 := 1) (n1 := 1) (n2 := 64) (n3 := 256) 0 0 r q) := by
  show shapeCast S64x256 v shapeCasts_S1x1x64x256_S64x256 (ix2 (n0 := 64) (n1 := 256) r q) = _
  unfold shapeCast
  rw [reshape4]; rfl

/-- The device's own piece is its own term. -/
theorem ownP_at (c : Dev nD) (h : Fin 2) (r : Fin 64) (q : Fin 256) :
    (wide1 (ownP m c h) (ix2 (n0 := 64) (n1 := 256) r q) : EReal) = term m c (row c r) (colO h q) := by
  rw [wide1_at]
  refine partW_at m c c r (colO h q) _ ?_ ?_ ?_
  · show offOwn h c 0 + 1 * 0 = _
    rw [offOwn_eq]; rfl
  · show offOwn h c 1 + 1 * r.val = _
    rw [offOwn_eq]; show 0 + 1 * r.val = _; omega
  · show offOwn h c 2 + 1 * q.val = _
    rw [offOwn_eq]; show 256 * h.val + 1 * q.val = 256 * h.val + q.val; omega

/-- A slot's index, as a load reads it. -/
theorem slot_at (h : Fin 2) (s : Fin 7) (r : Fin 64) (q : Fin 256) :
    (slotR h s).toLoadRect.idx (ix4 (n0 := 1) (n1 := 1) (n2 := 64) (n3 := 256) 0 0 r q) = ix4 (n0 := 2) (n1 := 7) (n2 := 64) (n3 := 256) h s r q := by
  funext a
  refine Fin.ext ?_
  match a with
  | ⟨0, _⟩ => show h.val + 1 * 0 = h.val; omega
  | ⟨1, _⟩ => show s.val + 1 * 0 = s.val; omega
  | ⟨2, _⟩ => show 0 + 1 * r.val = r.val; omega
  | ⟨3, _⟩ => show 0 + 1 * q.val = q.val; omega

/-- The piece in slot `s` is the term of the device `s + 1` places on. -/
theorem gotP_at (c : Dev nD) (h : Fin 2) (s : Fin 7) (r : Fin 64) (q : Fin 256) :
    (wide (gotP m c h s) (ix2 (n0 := 64) (n1 := 256) r q) : EReal) = term m (c + dist s) (row c r) (colO h q) := by
  rw [wide_at]
  refine (congrArg (rsW m c) (slot_at h s r q)).trans ?_
  have hb : c + dist s + dist (opp s) = c := back c s
  have ho := offSend_eq h (opp s) (c + dist s)
  rw [hb] at ho
  show partW m (c + dist s) ((Rect.unit (s := S8x64x512) (offSend h (opp s) (c + dist s)) S1x64x256.size (inb_send h (opp s) (c + dist s))).emb
    (Shape.reshapeEquiv (squeezes_S1x64x256_S64x256).numel_eq (ix2 (n0 := 64) (n1 := 256) r q))) = _
  rw [reshape3]
  refine partW_at m (c + dist s) c r (colO h q) _ ?_ ?_ ?_
  · show offSend h (opp s) (c + dist s) 0 + 1 * 0 = _
    rw [ho]; rfl
  · show offSend h (opp s) (c + dist s) 1 + 1 * r.val = _
    rw [ho]; show 0 + 1 * r.val = _; omega
  · show offSend h (opp s) (c + dist s) 2 + 1 * q.val = _
    rw [ho]; show 256 * h.val + 1 * q.val = 256 * h.val + q.val; omega

/-- The reduced rows are the sum of all devices' terms. -/
theorem redF_at (c : Dev nD) (h : Fin 2) (r : Fin 64) (q : Fin 256) :
    (redF m c h (ix2 (n0 := 64) (n1 := 256) r q) : EReal) = ∑ d : Fin 8, term m d (row c r) (colO h q) := by
  rw [← sum_devices c (fun d => term m d (row c r) (colO h q))]
  simp only [← gotP_at]
  rw [← ownP_at]
  rfl

/-- Rows received are the rows reduced. -/
theorem gotR_at (c : Dev nD) (h : Fin 2) (s : Fin 7) (r : Fin 64) (q : Fin 256) :
    (wide (gotR m c h s) (ix2 (n0 := 64) (n1 := 256) r q) : EReal) = redF m (c + dist s) h (ix2 (n0 := 64) (n1 := 256) r q) := by
  rw [wide_at]
  refine (congrArg (agW m c) (slot_at h s r q)).trans ?_
  show redW m (c + dist s) ((redR h).emb (Shape.reshapeEquiv (squeezes_S1x64x256_S64x256).numel_eq (ix2 (n0 := 64) (n1 := 256) r q))) = _
  rw [reshape3]
  refine (congrFun (read_red m (c + dist s) h) (ix3 (n0 := 1) (n1 := 64) (n2 := 256) 0 r q)).trans ?_
  unfold packRed
  refine shapeCast_apply _ _ _ (ix2 (n0 := 64) (n1 := 256) r q) ?_
  rw [Shape.rowMajor_val_two, Shape.rowMajor_val_three]
  show r.val * 256 + q.val = (0 * 64 + r.val) * 256 + q.val
  omega

/-- A piece of the result, whichever device has it. -/
theorem outP_at (c e : Dev nD) (h : Fin 2) (r : Fin 64) (q : Fin 256) :
    (outP m c e h (ix2 (n0 := 64) (n1 := 256) r q) : EReal) = ∑ d : Fin 8, term m d (row e r) (colO h q) := by
  refine Eq.trans ?_ (redF_at m e h r q)
  have key : ∀ c e : Dev nD, e = c ∨ ∃ s, e = c + dist s := by decide +kernel
  rcases key c e with rfl | ⟨s, rfl⟩
  · rw [outP_own]
  · rw [outP_got]; exact gotR_at m c h s r q

/-- The result on any device, element by element. -/
theorem outW_value (c : Dev nD) (R Q : Fin 512) :
    (outW m c (ix2 (n0 := 512) (n1 := 512) R Q) : EReal) = ∑ d : Fin 8, term m d R Q := by
  have hR : row ⟨R.val / 64, by show _ < 8; omega⟩ ⟨R.val % 64, by omega⟩ = R := Fin.ext (by show 64 * (R.val / 64) + R.val % 64 = R.val; omega)
  have hQ : colO ⟨Q.val / 256, by omega⟩ ⟨Q.val % 256, by omega⟩ = Q := Fin.ext (by show 256 * (Q.val / 256) + Q.val % 256 = Q.val; omega)
  refine (outP_at m c ⟨R.val / 64, by show _ < 8; omega⟩ ⟨Q.val / 256, by omega⟩ ⟨R.val % 64, by omega⟩ ⟨Q.val % 256, by omega⟩).trans ?_
  rw [hR, hQ]

/-! ## The reference -/

/-- The reference's result, as its run gives it. -/
abbrev refW [Cert.ReferenceIdeal.Facts] (X Y : FVec Ideal Cert.ReferenceIdeal.S512x16384 .f32) : FVec Ideal Cert.ReferenceIdeal.S512x512 .f32 :=
  Host.dotGeneral (F := Ideal) Cert.ReferenceIdeal.dot_S512x16384_S16384x512_S512x512_1_0_0_1_n_n none X
    (transpose Cert.ReferenceIdeal.S16384x512 [1, 0] Y Cert.ReferenceIdeal.Facts₀.transposes_S512x16384_S16384x512_1_0)

/-- Element by element it is the sum over all columns. -/
theorem refW_at [Cert.ReferenceIdeal.Facts] (X Y : FVec Ideal Cert.ReferenceIdeal.S512x16384 .f32) (R Q : Fin 512) :
    (refW X Y (ix2 (n0 := 512) (n1 := 512) R Q) : EReal)
      = ∑ k : Fin 16384, (X (ix2 (n0 := 512) (n1 := 16384) R k) * Y (ix2 (n0 := 512) (n1 := 16384) Q k) : EReal) := by
  have h := Ideal.matmul_plain_apply (M := 512) (K := 16384) (N := 512) none (X : FVec Ideal ⟨2, ![512, 16384]⟩ .f32)
    (transpose Cert.ReferenceIdeal.S16384x512 [1, 0] Y Cert.ReferenceIdeal.Facts₀.transposes_S512x16384_S16384x512_1_0 : FVec Ideal ⟨2, ![16384, 512]⟩ .f32)
    (fun _ => (0 : EReal)) R Q
  refine (show _ = _ from h).trans ((zero_add _).trans ?_)
  refine Finset.sum_congr rfl fun k _ => congrArg₂ (· * ·) rfl ?_
  refine transpose_apply _ _ _ _ (ix2 (n0 := 512) (n1 := 16384) Q k) fun b => ?_
  match b with
  | ⟨0, _⟩ => rfl
  | ⟨1, _⟩ => rfl

/-- Where the devices hold the blocks of two whole factors, every device's result is the reference's. -/
theorem outW_eq_refW [Cert.ReferenceIdeal.Facts] (X Y : FVec Ideal Cert.ReferenceIdeal.S512x16384 .f32)
    (hX : ∀ c : Dev nD, m (c.tc.loc main_arg0) = Layout.block ⟨2, ![512, 2048]⟩ ⟨2, ![512, 16384]⟩ 1 8 c X)
    (hY : ∀ c : Dev nD, m (c.tc.loc main_arg1) = Layout.block ⟨2, ![512, 2048]⟩ ⟨2, ![512, 16384]⟩ 1 8 c Y) (c : Dev nD) :
    outW m c = refW X Y := by
  have hb : ∀ (Z : FVec Ideal Cert.ReferenceIdeal.S512x16384 .f32) (d : Fin 8) (t : Fin 8) (k : Fin 256) (R : Fin 512),
      (Layout.block ⟨2, ![512, 2048]⟩ ⟨2, ![512, 16384]⟩ 1 8 d Z) (ix2 (n0 := 512) (n1 := 2048) R (col t k))
        = Z (ix2 (n0 := 512) (n1 := 16384) R (finProdFinEquiv (m := 8) (n := 2048) (d, finProdFinEquiv (m := 8) (n := 256) (t, k)))) := fun Z d t k R => by
    rw [Layout.block_apply]
    refine congrArg Z (funext fun a => Fin.ext ?_)
    match a with
    | ⟨0, _⟩ => rfl
    | ⟨1, _⟩ =>
      show d.val * 2048 + (256 * t.val + k.val) = (k.val + 256 * t.val) + 2048 * d.val
      omega
  funext i
  rw [← ix2_eta (n0 := 512) (n1 := 512) i]
  refine (outW_value m c _ _).trans (Eq.trans ?_ (refW_at X Y _ _).symm)
  rw [sum_blocks 8 2048]
  refine Finset.sum_congr rfl fun d _ => ?_
  rw [sum_blocks 8 256]
  unfold term lhsAt rhsAt
  refine Finset.sum_congr rfl fun t _ => Finset.sum_congr rfl fun k _ => congrArg₂ (· * ·) ?_ ?_
  · exact (congrFun (hX d) _).trans (hb X d t k _)
  · exact (congrFun (hY d) _).trans (hb Y d t k _)

end Cert.KernelIdeal.Proof

end

end
-- ==== Proof.lean ====
/-
  The claims about the all-reduce of a product over eight devices, assembled: the frames of the
  kernel, of its idealized form and of the reference, that the idealized form replaces nothing, and
  that over the reals it computes what the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem

/-- The idealized program ends with its arguments as they were and every counter at zero. -/
theorem frame_kernelIdeal : Cert.quiescent_KernelIdeal := fun m ρ _ =>
  (θ_run Cert.KernelIdeal.defs _ _).mono (fun _ h => ⟨fun c => (h.1 c).2, h.2⟩) (Cert.KernelIdeal.Proof.run_main (F := Ideal) m ρ)

/-- The program itself does: its text is the idealized one's, run at bit patterns. -/
theorem frame_kernel : Cert.quiescent_Kernel := fun m ρ _ =>
  (θ_run Cert.Kernel.defs _ _).mono (fun _ h => ⟨fun c => (h.1 c).2, h.2⟩) (Cert.Kernel.Proof.run_main (F := Bits) m ρ)

/-- The reference does: it is two host operations and has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized program replaces no operation. -/
theorem preserves : Cert.preserves_Kernel_KernelIdeal := trivial

/-- Over the reals every device of the idealized program ends with the reference's product of the whole factors. -/
theorem algebraic : Cert.algebraic_KernelIdeal_ReferenceIdeal := fun m ρ m' ρ' _ hX =>
  ⟨Cert.KernelIdeal.Proof.refW (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono
      (fun _ h c => ⟨(h.1 c).1.trans (Cert.KernelIdeal.Proof.outW_eq_refW m _ _ (fun c => (hX c).1) (fun c => (hX c).2) c), (h.1 c).2⟩)
      (Cert.KernelIdeal.Proof.run_main (F := Ideal) m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
